-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v109)) (v2 : (c : Dev Cert.KernelIdeal.nD) → Buf (Elt Ideal) ((c.tc : Thread Cert.KernelIdeal.nD Cert.KernelIdeal.τ).loc Cert.KernelIdeal.main_v98_2)) (v3 : (c : Dev Cert.KernelIdeal.nD) → Buf (Elt Ideal) ((c.tc : Thread Cert.KernelIdeal.nD Cert.KernelIdeal.τ).loc Cert.KernelIdeal.main_v101)) (v4 : (c : Dev Cert.KernelIdeal.nD) → Buf (Elt Ideal) ((c.tc : Thread Cert.KernelIdeal.nD Cert.KernelIdeal.τ).loc Cert.KernelIdeal.main_v104)) (v5 : (c : Dev Cert.KernelIdeal.nD) → Buf (Elt Ideal) ((c.tc : Thread Cert.KernelIdeal.nD Cert.KernelIdeal.τ).loc Cert.KernelIdeal.main_v107)) (v6 : (c : Dev Cert.KernelIdeal.nD) → Buf (Elt Ideal) ((c.tc : Thread Cert.KernelIdeal.nD Cert.KernelIdeal.τ).loc Cert.KernelIdeal.main_v98_3)) (v7 : (c : Dev Cert.KernelIdeal.nD) → Buf (Elt Ideal) ((c.tc : Thread Cert.KernelIdeal.nD Cert.KernelIdeal.τ).loc Cert.KernelIdeal.main_v23)) (v8 : (c : Dev Cert.KernelIdeal.nD) → Buf (Elt Ideal) ((c.tc : Thread Cert.KernelIdeal.nD Cert.KernelIdeal.τ).loc Cert.KernelIdeal.main_v88_0)) (v9 : (c : Dev Cert.KernelIdeal.nD) → Buf (Elt Ideal) ((c.tc : Thread Cert.KernelIdeal.nD Cert.KernelIdeal.τ).loc Cert.KernelIdeal.main_v52)) (v10 : (c : Dev Cert.KernelIdeal.nD) → Buf (Elt Ideal) ((c.tc : Thread Cert.KernelIdeal.nD Cert.KernelIdeal.τ).loc Cert.KernelIdeal.main_v98_4)) (v11 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_v98_2) = v2 c
          ∧ r.2.mem ((c.tc : Thread Cert.KernelIdeal.nD Cert.KernelIdeal.τ).loc Cert.KernelIdeal.main_v101) = v3 c
          ∧ r.2.mem ((c.tc : Thread Cert.KernelIdeal.nD Cert.KernelIdeal.τ).loc Cert.KernelIdeal.main_v104) = v4 c
          ∧ r.2.mem ((c.tc : Thread Cert.KernelIdeal.nD Cert.KernelIdeal.τ).loc Cert.KernelIdeal.main_v107) = v5 c
          ∧ r.2.mem ((c.tc : Thread Cert.KernelIdeal.nD Cert.KernelIdeal.τ).loc Cert.KernelIdeal.main_v98_3) = v6 c
          ∧ r.2.mem ((c.tc : Thread Cert.KernelIdeal.nD Cert.KernelIdeal.τ).loc Cert.KernelIdeal.main_v23) = v7 c
          ∧ r.2.mem ((c.tc : Thread Cert.KernelIdeal.nD Cert.KernelIdeal.τ).loc Cert.KernelIdeal.main_v88_0) = v8 c
          ∧ r.2.mem ((c.tc : Thread Cert.KernelIdeal.nD Cert.KernelIdeal.τ).loc Cert.KernelIdeal.main_v52) = v9 c
          ∧ r.2.mem ((c.tc : Thread Cert.KernelIdeal.nD Cert.KernelIdeal.τ).loc Cert.KernelIdeal.main_v98_4) = v10 c
          ∧ r.2.mem ((c.tc : Thread Cert.KernelIdeal.nD Cert.KernelIdeal.τ).loc Cert.KernelIdeal.main_v81) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63_0) = v0 c
          ∧ r.2.mem ((c.tc : Thread Cert.ReferenceIdeal.nD Cert.ReferenceIdeal.τ).loc Cert.ReferenceIdeal.main_v63_1) = v1 c
          ∧ r.2.mem ((c.tc : Thread Cert.ReferenceIdeal.nD Cert.ReferenceIdeal.τ).loc Cert.ReferenceIdeal.main_v63_2) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v72) = v5 c
          ∧ r.2.mem ((c.tc : Thread Cert.ReferenceIdeal.nD Cert.ReferenceIdeal.τ).loc Cert.ReferenceIdeal.main_v63_3) = v6 c
          ∧ r.2.mem ((c.tc : Thread Cert.ReferenceIdeal.nD Cert.ReferenceIdeal.τ).loc Cert.ReferenceIdeal.main_v17) = v7 c
          ∧ r.2.mem ((c.tc : Thread Cert.ReferenceIdeal.nD Cert.ReferenceIdeal.τ).loc Cert.ReferenceIdeal.main_v63_4) = v8 c
          ∧ r.2.mem ((c.tc : Thread Cert.ReferenceIdeal.nD Cert.ReferenceIdeal.τ).loc Cert.ReferenceIdeal.main_v36) = v9 c
          ∧ r.2.mem ((c.tc : Thread Cert.ReferenceIdeal.nD Cert.ReferenceIdeal.τ).loc Cert.ReferenceIdeal.main_v63_5) = v10 c
          ∧ r.2.mem ((c.tc : Thread Cert.ReferenceIdeal.nD Cert.ReferenceIdeal.τ).loc Cert.ReferenceIdeal.main_v55) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6144x1664 : Shape := ⟨3, ![3, 6144, 1664]⟩
abbrev S1664x1536 : Shape := ⟨2, ![1664, 1536]⟩
abbrev S3x6144x1536 : Shape := ⟨3, ![3, 6144, 1536]⟩
abbrev S16 : Shape := ⟨1, ![16]⟩
abbrev S_ : Shape := ⟨0, ![]⟩
abbrev S255 : Shape := ⟨1, ![255]⟩
abbrev S1 : Shape := ⟨1, ![1]⟩
abbrev S1x1 : Shape := ⟨2, ![1, 1]⟩
abbrev S416x1536 : Shape := ⟨2, ![416, 1536]⟩
abbrev S8x1536 : Shape := ⟨2, ![8, 1536]⟩
abbrev S52x8x1536 : Shape := ⟨3, ![52, 8, 1536]⟩
abbrev S1x8x1536 : Shape := ⟨3, ![1, 8, 1536]⟩
abbrev S1x1x1 : Shape := ⟨3, ![1, 1, 1]⟩
abbrev S5 : Shape := ⟨1, ![5]⟩
abbrev S2304x8x1536 : Shape := ⟨3, ![2304, 8, 1536]⟩
abbrev S2304x8x1664 : Shape := ⟨3, ![2304, 8, 1664]⟩
abbrev S1x1024x1664 : Shape := ⟨3, ![1, 1024, 1664]⟩
abbrev S1x1024x1536 : Shape := ⟨3, ![1, 1024, 1536]⟩
abbrev S128x8x1536 : Shape := ⟨3, ![128, 8, 1536]⟩
abbrev S128x8x1664 : Shape := ⟨3, ![128, 8, 1664]⟩
abbrev S8x1664 : Shape := ⟨2, ![8, 1664]⟩
abbrev S1024x1664 : Shape := ⟨2, ![1024, 1664]⟩
abbrev S1024x1536 : Shape := ⟨2, ![1024, 1536]⟩
abbrev S1x8x1664 : Shape := ⟨3, ![1, 8, 1664]⟩
abbrev S15 : Shape := ⟨1, ![15]⟩

abbrev nBuf : Space → Nat
  | .hbm => 183
  | .vmem => 24
  | .smem => 2
  | _ => 0

abbrev hbmTy0_0 (i : Nat) : BufTy := match i % 128 with
  | 0 => ⟨S3x6144x1664, .bf16⟩
  | 1 => ⟨S1664x1536, .f32⟩
  | 2 => ⟨S3x6144x1536, .bf16⟩
  | 3 => ⟨S16, .f32⟩
  | 4 => ⟨S16, .f32⟩
  | 5 => ⟨S16, .f32⟩
  | 6 => ⟨S_, .f32⟩
  | 7 => ⟨S_, .f32⟩
  | 8 => ⟨S_, .f32⟩
  | 9 => ⟨S_, .f32⟩
  | 10 => ⟨S255, .i32⟩
  | 11 => ⟨S_, .i32⟩
  | 12 => ⟨S255, .i32⟩
  | 13 => ⟨S255, .i32⟩
  | 14 => ⟨S_, .i32⟩
  | 15 => ⟨S255, .i32⟩
  | 16 => ⟨S255, .i32⟩
  | 17 => ⟨S255, .f32⟩
  | 18 => ⟨S_, .f32⟩
  | 19 => ⟨S255, .f32⟩
  | 20 => ⟨S255, .i1⟩
  | 21 => ⟨S255, .i32⟩
  | 22 => ⟨S_, .i32⟩
  | 23 => ⟨S_, .i32⟩
  | 24 => ⟨S_, .i32⟩
  | 25 => ⟨S_, .i1⟩
  | 26 => ⟨S_, .i32⟩
  | 27 => ⟨S_, .i1⟩
  | 28 => ⟨S_, .i1⟩
  | 29 => ⟨S_, .i32⟩
  | 30 => ⟨S_, .i32⟩
  | 31 => ⟨S_, .i32⟩
  | 32 => ⟨S_, .i32⟩
  | 33 => ⟨S_, .f32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .f32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .f32⟩
  | 55 => ⟨S_, .f32⟩
  | 56 => ⟨S_, .f32⟩
  | 57 => ⟨S_, .f32⟩
  | 58 => ⟨S_, .f32⟩
  | 59 => ⟨S255, .i32⟩
  | 60 => ⟨S_, .i32⟩
  | 61 => ⟨S255, .i32⟩
  | 62 => ⟨S255, .i32⟩
  | 63 => ⟨S_, .i32⟩
  | 64 => ⟨S255, .i32⟩
  | 65 => ⟨S255, .i32⟩
  | 66 => ⟨S255, .f32⟩
  | 67 => ⟨S_, .f32⟩
  | 68 => ⟨S255, .f32⟩
  | 69 => ⟨S255, .i1⟩
  | 70 => ⟨S255, .i32⟩
  | 71 => ⟨S_, .i32⟩
  | 72 => ⟨S_, .i32⟩
  | 73 => ⟨S_, .i32⟩
  | 74 => ⟨S_, .i1⟩
  | 75 => ⟨S_, .i32⟩
  | 76 => ⟨S_, .i1⟩
  | 77 => ⟨S_, .i1⟩
  | 78 => ⟨S_, .i32⟩
  | 79 => ⟨S_, .i32⟩
  | 80 => ⟨S_, .i32⟩
  | 81 => ⟨S_, .i32⟩
  | 82 => ⟨S_, .f32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .f32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .f32⟩
  | 104 => ⟨S_, .f32⟩
  | 105 => ⟨S_, .f32⟩
  | 106 => ⟨S_, .f32⟩
  | 107 => ⟨S_, .f32⟩
  | 108 => ⟨S255, .i32⟩
  | 109 => ⟨S_, .i32⟩
  | 110 => ⟨S255, .i32⟩
  | 111 => ⟨S255, .i32⟩
  | 112 => ⟨S_, .i32⟩
  | 113 => ⟨S255, .i32⟩
  | 114 => ⟨S255, .i32⟩
  | 115 => ⟨S255, .f32⟩
  | 116 => ⟨S_, .f32⟩
  | 117 => ⟨S255, .f32⟩
  | 118 => ⟨S255, .i1⟩
  | 119 => ⟨S255, .i32⟩
  | 120 => ⟨S_, .i32⟩
  | 121 => ⟨S_, .i32⟩
  | 122 => ⟨S_, .i32⟩
  | 123 => ⟨S_, .i1⟩
  | 124 => ⟨S_, .i32⟩
  | 125 => ⟨S_, .i1⟩
  | 126 => ⟨S_, .i1⟩
  | 127 => ⟨S_, .i32⟩
  | _ => ⟨S3x6144x1664, .bf16⟩

abbrev hbmTy0_1 (i : Nat) : BufTy := match i % 128 with
  | 0 => ⟨S_, .i32⟩
  | 1 => ⟨S_, .i32⟩
  | 2 => ⟨S_, .i32⟩
  | 3 => ⟨S_, .f32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .f32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .f32⟩
  | 25 => ⟨S1, .f32⟩
  | 26 => ⟨S1664x1536, .fp8e4m3⟩
  | 27 => ⟨S1x1, .f32⟩
  | 28 => ⟨S_, .f32⟩
  | 29 => ⟨S_, .f32⟩
  | 30 => ⟨S_, .f32⟩
  | 31 => ⟨S1, .f32⟩
  | 32 => ⟨S1, .f32⟩
  | 33 => ⟨S1, .f32⟩
  | 34 => ⟨S1, .f32⟩
  | 35 => ⟨S1, .f32⟩
  | 36 => ⟨S5, .f32⟩
  | 37 => ⟨S2304x8x1536, .bf16⟩
  | 38 => ⟨S2304x8x1664, .bf16⟩
  | 39 => ⟨S1664x1536, .f32⟩
  | 40 => ⟨S3x6144x1664, .fp8e4m3⟩
  | 41 => ⟨S3x6144x1536, .fp8e5m2⟩
  | 42 => ⟨S1x1, .f32⟩
  | 43 => ⟨S1x1, .f32⟩
  | 44 => ⟨S15, .f32⟩
  | 45 => ⟨S1, .f32⟩
  | 46 => ⟨S16, .f32⟩
  | 47 => ⟨S15, .f32⟩
  | 48 => ⟨S1, .f32⟩
  | 49 => ⟨S16, .f32⟩
  | 50 => ⟨S15, .f32⟩
  | 51 => ⟨S1, .f32⟩
  | 52 => ⟨S16, .f32⟩
  | 53 => ⟨S3x6144x1536, .bf16⟩
  | 54 => ⟨S3x6144x1664, .bf16⟩
  | _ => ⟨S3x6144x1664, .bf16⟩

abbrev hbmTy (i : Nat) : BufTy := match i / 128 with
  | 0 => hbmTy0_0 i
  | 1 => hbmTy0_1 i
  | _ => ⟨S3x6144x1664, .bf16⟩

abbrev bufTy : (tb : Table) → Fin (tcTables nBuf tb) → BufTy
  | .hbm, ⟨i, _⟩ => hbmTy i
  | .local _ .vmem, ⟨0, _⟩ => ⟨S416x1536, .f32⟩
  | .local _ .vmem, ⟨1, _⟩ => ⟨S416x1536, .f32⟩
  | .local _ .vmem, ⟨2, _⟩ => ⟨S416x1536, .fp8e4m3⟩
  | .local _ .vmem, ⟨3, _⟩ => ⟨S416x1536, .fp8e4m3⟩
  | .local _ .vmem, ⟨4, _⟩ => ⟨S1x1, .f32⟩
  | .local _ .vmem, ⟨5, _⟩ => ⟨S8x1536, .f32⟩
  | .local _ .vmem, ⟨6, _⟩ => ⟨S1x1024x1664, .bf16⟩
  | .local _ .vmem, ⟨7, _⟩ => ⟨S1x1024x1664, .bf16⟩
  | .local _ .vmem, ⟨8, _⟩ => ⟨S1x1024x1536, .bf16⟩
  | .local _ .vmem, ⟨9, _⟩ => ⟨S1x1024x1536, .bf16⟩
  | .local _ .vmem, ⟨10, _⟩ => ⟨S1664x1536, .fp8e4m3⟩
  | .local _ .vmem, ⟨11, _⟩ => ⟨S128x8x1536, .bf16⟩
  | .local _ .vmem, ⟨12, _⟩ => ⟨S128x8x1536, .bf16⟩
  | .local _ .vmem, ⟨13, _⟩ => ⟨S128x8x1664, .bf16⟩
  | .local _ .vmem, ⟨14, _⟩ => ⟨S128x8x1664, .bf16⟩
  | .local _ .vmem, ⟨15, _⟩ => ⟨S1664x1536, .f32⟩
  | .local _ .vmem, ⟨16, _⟩ => ⟨S1x1024x1664, .fp8e4m3⟩
  | .local _ .vmem, ⟨17, _⟩ => ⟨S1x1024x1664, .fp8e4m3⟩
  | .local _ .vmem, ⟨18, _⟩ => ⟨S1x1024x1536, .fp8e5m2⟩
  | .local _ .vmem, ⟨19, _⟩ => ⟨S1x1024x1536, .fp8e5m2⟩
  | .local _ .vmem, ⟨20, _⟩ => ⟨S1x1, .f32⟩
  | .local _ .vmem, ⟨21, _⟩ => ⟨S1x1, .f32⟩
  | .local _ .vmem, ⟨22, _⟩ => ⟨S8x1664, .bf16⟩
  | .local _ .vmem, ⟨23, _⟩ => ⟨S8x1536, .bf16⟩
  | .local _ .smem, ⟨0, _⟩ => ⟨S1, .f32⟩
  | .local _ .smem, ⟨1, _⟩ => ⟨S5, .f32⟩
  | _, _ => ⟨S3x6144x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev main_c_8 : Ref sig .tc := ⟨.hbm, 35, rfl⟩
abbrev main_call0_v0 : Ref sig .tc := ⟨.hbm, 36, rfl⟩
abbrev main_v19 : Ref sig .tc := ⟨.hbm, 37, rfl⟩
abbrev main_c_9 : Ref sig .tc := ⟨.hbm, 38, rfl⟩
abbrev main_v20 : Ref sig .tc := ⟨.hbm, 39, rfl⟩
abbrev main_c_10 : Ref sig .tc := ⟨.hbm, 40, rfl⟩
abbrev main_c_11 : Ref sig .tc := ⟨.hbm, 41, rfl⟩
abbrev main_v21 : Ref sig .tc := ⟨.hbm, 42, rfl⟩
abbrev main_c_12 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_13 : Ref sig .tc := ⟨.hbm, 47, rfl⟩
abbrev main_v25 : Ref sig .tc := ⟨.hbm, 48, rfl⟩
abbrev main_c_14 : Ref sig .tc := ⟨.hbm, 49, rfl⟩
abbrev main_c_15 : Ref sig .tc := ⟨.hbm, 50, rfl⟩
abbrev main_v26 : Ref sig .tc := ⟨.hbm, 51, rfl⟩
abbrev main_c_16 : Ref sig .tc := ⟨.hbm, 52, rfl⟩
abbrev main_v27 : Ref sig .tc := ⟨.hbm, 53, rfl⟩
abbrev main_v28 : Ref sig .tc := ⟨.hbm, 54, rfl⟩
abbrev main_cst_17 : Ref sig .tc := ⟨.hbm, 55, rfl⟩
abbrev main_v29 : Ref sig .tc := ⟨.hbm, 56, rfl⟩
abbrev main_cst_18 : Ref sig .tc := ⟨.hbm, 57, rfl⟩
abbrev main_v30 : Ref sig .tc := ⟨.hbm, 58, rfl⟩
abbrev main_v31 : Ref sig .tc := ⟨.hbm, 59, rfl⟩
abbrev main_c_19 : Ref sig .tc := ⟨.hbm, 60, rfl⟩
abbrev main_v32 : Ref sig .tc := ⟨.hbm, 61, rfl⟩
abbrev main_v33 : Ref sig .tc := ⟨.hbm, 62, rfl⟩
abbrev main_c_20 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_21 : Ref sig .tc := ⟨.hbm, 71, rfl⟩
abbrev main_v41 : Ref sig .tc := ⟨.hbm, 72, rfl⟩
abbrev main_c_22 : Ref sig .tc := ⟨.hbm, 73, rfl⟩
abbrev main_v42 : Ref sig .tc := ⟨.hbm, 74, rfl⟩
abbrev main_c_23 : Ref sig .tc := ⟨.hbm, 75, rfl⟩
abbrev main_v43 : Ref sig .tc := ⟨.hbm, 76, rfl⟩
abbrev main_v44 : Ref sig .tc := ⟨.hbm, 77, rfl⟩
abbrev main_c_24 : Ref sig .tc := ⟨.hbm, 78, rfl⟩
abbrev main_v45 : Ref sig .tc := ⟨.hbm, 79, rfl⟩
abbrev main_c_25 : Ref sig .tc := ⟨.hbm, 80, rfl⟩
abbrev main_v46 : Ref sig .tc := ⟨.hbm, 81, rfl⟩
abbrev main_cst_26 : Ref sig .tc := ⟨.hbm, 82, rfl⟩
abbrev main_v47 : Ref sig .tc := ⟨.hbm, 83, rfl⟩
abbrev main_c_27 : Ref sig .tc := ⟨.hbm, 84, rfl⟩
abbrev main_call1_v0 : Ref sig .tc := ⟨.hbm, 85, rfl⟩
abbrev main_v48 : Ref sig .tc := ⟨.hbm, 86, rfl⟩
abbrev main_c_28 : Ref sig .tc := ⟨.hbm, 87, rfl⟩
abbrev main_v49 : Ref sig .tc := ⟨.hbm, 88, rfl⟩
abbrev main_c_29 : Ref sig .tc := ⟨.hbm, 89, rfl⟩
abbrev main_c_30 : Ref sig .tc := ⟨.hbm, 90, rfl⟩
abbrev main_v50 : Ref sig .tc := ⟨.hbm, 91, rfl⟩
abbrev main_c_31 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_32 : Ref sig .tc := ⟨.hbm, 96, rfl⟩
abbrev main_v54 : Ref sig .tc := ⟨.hbm, 97, rfl⟩
abbrev main_c_33 : Ref sig .tc := ⟨.hbm, 98, rfl⟩
abbrev main_c_34 : Ref sig .tc := ⟨.hbm, 99, rfl⟩
abbrev main_v55 : Ref sig .tc := ⟨.hbm, 100, rfl⟩
abbrev main_c_35 : Ref sig .tc := ⟨.hbm, 101, rfl⟩
abbrev main_v56 : Ref sig .tc := ⟨.hbm, 102, rfl⟩
abbrev main_v57 : Ref sig .tc := ⟨.hbm, 103, rfl⟩
abbrev main_cst_36 : Ref sig .tc := ⟨.hbm, 104, rfl⟩
abbrev main_v58 : Ref sig .tc := ⟨.hbm, 105, rfl⟩
abbrev main_cst_37 : Ref sig .tc := ⟨.hbm, 106, rfl⟩
abbrev main_v59 : Ref sig .tc := ⟨.hbm, 107, rfl⟩
abbrev main_v60 : Ref sig .tc := ⟨.hbm, 108, rfl⟩
abbrev main_c_38 : Ref sig .tc := ⟨.hbm, 109, rfl⟩
abbrev main_v61 : Ref sig .tc := ⟨.hbm, 110, rfl⟩
abbrev main_v62 : Ref sig .tc := ⟨.hbm, 111, rfl⟩
abbrev main_c_39 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_40 : Ref sig .tc := ⟨.hbm, 120, rfl⟩
abbrev main_v70 : Ref sig .tc := ⟨.hbm, 121, rfl⟩
abbrev main_c_41 : Ref sig .tc := ⟨.hbm, 122, rfl⟩
abbrev main_v71 : Ref sig .tc := ⟨.hbm, 123, rfl⟩
abbrev main_c_42 : Ref sig .tc := ⟨.hbm, 124, rfl⟩
abbrev main_v72 : Ref sig .tc := ⟨.hbm, 125, rfl⟩
abbrev main_v73 : Ref sig .tc := ⟨.hbm, 126, rfl⟩
abbrev main_c_43 : Ref sig .tc := ⟨.hbm, 127, rfl⟩
abbrev main_v74 : Ref sig .tc := ⟨.hbm, 128, rfl⟩
abbrev main_c_44 : Ref sig .tc := ⟨.hbm, 129, rfl⟩
abbrev main_v75 : Ref sig .tc := ⟨.hbm, 130, rfl⟩
abbrev main_cst_45 : Ref sig .tc := ⟨.hbm, 131, rfl⟩
abbrev main_v76 : Ref sig .tc := ⟨.hbm, 132, rfl⟩
abbrev main_c_46 : Ref sig .tc := ⟨.hbm, 133, rfl⟩
abbrev main_call2_v0 : Ref sig .tc := ⟨.hbm, 134, rfl⟩
abbrev main_v77 : Ref sig .tc := ⟨.hbm, 135, rfl⟩
abbrev main_c_47 : Ref sig .tc := ⟨.hbm, 136, rfl⟩
abbrev main_v78 : Ref sig .tc := ⟨.hbm, 137, rfl⟩
abbrev main_c_48 : Ref sig .tc := ⟨.hbm, 138, rfl⟩
abbrev main_c_49 : Ref sig .tc := ⟨.hbm, 139, rfl⟩
abbrev main_v79 : Ref sig .tc := ⟨.hbm, 140, rfl⟩
abbrev main_c_50 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_c_51 : Ref sig .tc := ⟨.hbm, 145, rfl⟩
abbrev main_v83 : Ref sig .tc := ⟨.hbm, 146, rfl⟩
abbrev main_c_52 : Ref sig .tc := ⟨.hbm, 147, rfl⟩
abbrev main_c_53 : Ref sig .tc := ⟨.hbm, 148, rfl⟩
abbrev main_v84 : Ref sig .tc := ⟨.hbm, 149, rfl⟩
abbrev main_c_54 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88_0 : Ref sig .tc := ⟨.hbm, 154, rfl⟩
abbrev main_v88_1 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98_0 : Ref sig .tc := ⟨.hbm, 165, rfl⟩
abbrev main_v98_1 : Ref sig .tc := ⟨.hbm, 166, rfl⟩
abbrev main_v98_2 : Ref sig .tc := ⟨.hbm, 167, rfl⟩
abbrev main_v98_3 : Ref sig .tc := ⟨.hbm, 168, rfl⟩
abbrev main_v98_4 : Ref sig .tc := ⟨.hbm, 169, rfl⟩
abbrev main_v98_5 : Ref sig .tc := ⟨.hbm, 170, rfl⟩
abbrev main_v98_6 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg10_0 : Ref sig .tc := ⟨.vmem, 21, rfl⟩
abbrev cc1_scratch0 : Ref sig .tc := ⟨.vmem, 22, rfl⟩
abbrev cc1_scratch1 : Ref sig .tc := ⟨.vmem, 23, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem10_0 : DmaSem sig := 22

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_9 : BitVec 32 := 0#32
  let v21 : BitVec 1 := Scalar.cmpi .ne v20 c0_i32_9
  v21

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S416x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![18], ![false]⟩

def k1_cond2 (i : grid1.Coords) : BitVec 1 :=
  let arg0 : BitVec 32 := BitVec.ofNat 32 (i 0).val
  let c17_i32 : BitVec 32 := 17#32
  let v68 : BitVec 1 := Scalar.cmpi .eq arg0 c17_i32
  let v69 : BitVec 32 := Scalar.extui v68
  let c0_i32_41 : BitVec 32 := 0#32
  let v70 : BitVec 1 := Scalar.cmpi .ne v69 c0_i32_41
  v70

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_2 (i : grid1.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_8 (i : grid1.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S5 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1024x1664 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1664x1536 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x8x1536 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x8x1664 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1664x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x1024x1664 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1024x1536 .fp8e5m2 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S3x6144x1664 : Shape := ⟨3, ![3, 6144, 1664]⟩
abbrev S1664x1536 : Shape := ⟨2, ![1664, 1536]⟩
abbrev S3x6144x1536 : Shape := ⟨3, ![3, 6144, 1536]⟩
abbrev S16 : Shape := ⟨1, ![16]⟩
abbrev S254 : Shape := ⟨1, ![254]⟩
abbrev S_ : Shape := ⟨0, ![]⟩
abbrev S1x1 : Shape := ⟨2, ![1, 1]⟩
abbrev S1x3x6144x1664 : Shape := ⟨4, ![1, 3, 6144, 1664]⟩
abbrev S1 : Shape := ⟨1, ![1]⟩
abbrev S1x1x1x1 : Shape := ⟨4, ![1, 1, 1, 1]⟩
abbrev S1x1664x1536 : Shape := ⟨3, ![1, 1664, 1536]⟩
abbrev S1x1x1 : Shape := ⟨3, ![1, 1, 1]⟩
abbrev S1x3x6144x1536 : Shape := ⟨4, ![1, 3, 6144, 1536]⟩
abbrev S15 : Shape := ⟨1, ![15]⟩

abbrev nBuf : Space → Nat
  | .hbm => 120
  | .vmem => 18
  | .smem => 0
  | _ => 0

abbrev bufTy : (tb : Table) → Fin (tcTables nBuf tb) → BufTy
  | .hbm, ⟨0, _⟩ => ⟨S3x6144x1664, .bf16⟩
  | .hbm, ⟨1, _⟩ => ⟨S1664x1536, .f32⟩
  | .hbm, ⟨2, _⟩ => ⟨S3x6144x1536, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S254, .f32⟩
  | .hbm, ⟨7, _⟩ => ⟨S254, .f32⟩
  | .hbm, ⟨8, _⟩ => ⟨S254, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S254, .f32⟩
  | .hbm, ⟨15, _⟩ => ⟨S254, .i1⟩
  | .hbm, ⟨16, _⟩ => ⟨S254, .f32⟩
  | .hbm, ⟨17, _⟩ => ⟨S254, .i1⟩
  | .hbm, ⟨18, _⟩ => ⟨S254, .i1⟩
  | .hbm, ⟨19, _⟩ => ⟨S_, .f32⟩
  | .hbm, ⟨20, _⟩ => ⟨S254, .f32⟩
  | .hbm, ⟨21, _⟩ => ⟨S254, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S254, .f32⟩
  | .hbm, ⟨26, _⟩ => ⟨S254, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .i1⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S254, .f32⟩
  | .hbm, ⟨44, _⟩ => ⟨S254, .i1⟩
  | .hbm, ⟨45, _⟩ => ⟨S254, .f32⟩
  | .hbm, ⟨46, _⟩ => ⟨S254, .i1⟩
  | .hbm, ⟨47, _⟩ => ⟨S254, .i1⟩
  | .hbm, ⟨48, _⟩ => ⟨S_, .f32⟩
  | .hbm, ⟨49, _⟩ => ⟨S254, .f32⟩
  | .hbm, ⟨50, _⟩ => ⟨S254, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S254, .f32⟩
  | .hbm, ⟨55, _⟩ => ⟨S254, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .i1⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S254, .f32⟩
  | .hbm, ⟨73, _⟩ => ⟨S254, .i1⟩
  | .hbm, ⟨74, _⟩ => ⟨S254, .f32⟩
  | .hbm, ⟨75, _⟩ => ⟨S254, .i1⟩
  | .hbm, ⟨76, _⟩ => ⟨S254, .i1⟩
  | .hbm, ⟨77, _⟩ => ⟨S_, .f32⟩
  | .hbm, ⟨78, _⟩ => ⟨S254, .f32⟩
  | .hbm, ⟨79, _⟩ => ⟨S254, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S254, .f32⟩
  | .hbm, ⟨84, _⟩ => ⟨S254, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .i1⟩
  | .hbm, ⟨89, _⟩ => ⟨S_, .f32⟩
  | .hbm, ⟨90, _⟩ => ⟨S_, .i1⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S1x1, .f32⟩
  | .hbm, ⟨97, _⟩ => ⟨S1x1, .f32⟩
  | .hbm, ⟨98, _⟩ => ⟨S1x1, .f32⟩
  | .hbm, ⟨99, _⟩ => ⟨S1x1, .f32⟩
  | .hbm, ⟨100, _⟩ => ⟨S1x1, .f32⟩
  | .hbm, ⟨101, _⟩ => ⟨S1x1, .f32⟩
  | .hbm, ⟨102, _⟩ => ⟨S3x6144x1536, .bf16⟩
  | .hbm, ⟨103, _⟩ => ⟨S3x6144x1664, .bf16⟩
  | .hbm, ⟨104, _⟩ => ⟨S1664x1536, .f32⟩
  | .hbm, ⟨105, _⟩ => ⟨S3x6144x1664, .fp8e4m3⟩
  | .hbm, ⟨106, _⟩ => ⟨S1664x1536, .fp8e4m3⟩
  | .hbm, ⟨107, _⟩ => ⟨S3x6144x1536, .fp8e5m2⟩
  | .hbm, ⟨108, _⟩ => ⟨S1x1, .f32⟩
  | .hbm, ⟨109, _⟩ => ⟨S1x1, .f32⟩
  | .hbm, ⟨110, _⟩ => ⟨S1x1, .f32⟩
  | .hbm, ⟨111, _⟩ => ⟨S15, .f32⟩
  | .hbm, ⟨112, _⟩ => ⟨S1, .f32⟩
  | .hbm, ⟨113, _⟩ => ⟨S16, .f32⟩
  | .hbm, ⟨114, _⟩ => ⟨S15, .f32⟩
  | .hbm, ⟨115, _⟩ => ⟨S1, .f32⟩
  | .hbm, ⟨116, _⟩ => ⟨S16, .f32⟩
  | .hbm, ⟨117, _⟩ => ⟨S15, .f32⟩
  | .hbm, ⟨118, _⟩ => ⟨S1, .f32⟩
  | .hbm, ⟨119, _⟩ => ⟨S16, .f32⟩
  | .local _ .vmem, ⟨0, _⟩ => ⟨S1x1, .f32⟩
  | .local _ .vmem, ⟨1, _⟩ => ⟨S1x1, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S3x6144x1664, .bf16⟩
  | .local _ .vmem, ⟨7, _⟩ => ⟨S1664x1536, .f32⟩
  | .local _ .vmem, ⟨8, _⟩ => ⟨S3x6144x1536, .bf16⟩
  | .local _ .vmem, ⟨9, _⟩ => ⟨S3x6144x1536, .bf16⟩
  | .local _ .vmem, ⟨10, _⟩ => ⟨S3x6144x1664, .bf16⟩
  | .local _ .vmem, ⟨11, _⟩ => ⟨S1664x1536, .f32⟩
  | .local _ .vmem, ⟨12, _⟩ => ⟨S3x6144x1664, .fp8e4m3⟩
  | .local _ .vmem, ⟨13, _⟩ => ⟨S1664x1536, .fp8e4m3⟩
  | .local _ .vmem, ⟨14, _⟩ => ⟨S3x6144x1536, .fp8e5m2⟩
  | .local _ .vmem, ⟨15, _⟩ => ⟨S1x1, .f32⟩
  | .local _ .vmem, ⟨16, _⟩ => ⟨S1x1, .f32⟩
  | .local _ .vmem, ⟨17, _⟩ => ⟨S1x1, .f32⟩
  | _, _ => ⟨S3x6144x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_cst_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev main_cst_7 : Ref sig .tc := ⟨.hbm, 27, rfl⟩
abbrev main_v13 : Ref sig .tc := ⟨.hbm, 28, rfl⟩
abbrev main_cst_8 : Ref sig .tc := ⟨.hbm, 29, rfl⟩
abbrev main_v14 : Ref sig .tc := ⟨.hbm, 30, rfl⟩
abbrev main_cst_9 : Ref sig .tc := ⟨.hbm, 31, rfl⟩
abbrev main_v15 : Ref sig .tc := ⟨.hbm, 32, rfl⟩
abbrev main_v16 : Ref sig .tc := ⟨.hbm, 33, rfl⟩
abbrev main_cst_10 : Ref sig .tc := ⟨.hbm, 34, rfl⟩
abbrev main_v17 : Ref sig .tc := ⟨.hbm, 35, rfl⟩
abbrev main_cst_11 : Ref sig .tc := ⟨.hbm, 36, rfl⟩
abbrev main_v18 : Ref sig .tc := ⟨.hbm, 37, rfl⟩
abbrev main_cst_12 : Ref sig .tc := ⟨.hbm, 38, rfl⟩
abbrev main_v19 : Ref sig .tc := ⟨.hbm, 39, rfl⟩
abbrev main_cst_13 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_14 : Ref sig .tc := ⟨.hbm, 48, rfl⟩
abbrev main_v27 : Ref sig .tc := ⟨.hbm, 49, rfl⟩
abbrev main_v28 : Ref sig .tc := ⟨.hbm, 50, rfl⟩
abbrev main_cst_15 : Ref sig .tc := ⟨.hbm, 51, rfl⟩
abbrev main_v29 : Ref sig .tc := ⟨.hbm, 52, rfl⟩
abbrev main_cst_16 : Ref sig .tc := ⟨.hbm, 53, rfl⟩
abbrev main_v30 : Ref sig .tc := ⟨.hbm, 54, rfl⟩
abbrev main_v31 : Ref sig .tc := ⟨.hbm, 55, rfl⟩
abbrev main_cst_17 : Ref sig .tc := ⟨.hbm, 56, rfl⟩
abbrev main_v32 : Ref sig .tc := ⟨.hbm, 57, rfl⟩
abbrev main_cst_18 : Ref sig .tc := ⟨.hbm, 58, rfl⟩
abbrev main_v33 : Ref sig .tc := ⟨.hbm, 59, rfl⟩
abbrev main_cst_19 : Ref sig .tc := ⟨.hbm, 60, rfl⟩
abbrev main_v34 : Ref sig .tc := ⟨.hbm, 61, rfl⟩
abbrev main_v35 : Ref sig .tc := ⟨.hbm, 62, rfl⟩
abbrev main_cst_20 : Ref sig .tc := ⟨.hbm, 63, rfl⟩
abbrev main_v36 : Ref sig .tc := ⟨.hbm, 64, rfl⟩
abbrev main_cst_21 : Ref sig .tc := ⟨.hbm, 65, rfl⟩
abbrev main_v37 : Ref sig .tc := ⟨.hbm, 66, rfl⟩
abbrev main_cst_22 : Ref sig .tc := ⟨.hbm, 67, rfl⟩
abbrev main_v38 : Ref sig .tc := ⟨.hbm, 68, rfl⟩
abbrev main_cst_23 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_24 : Ref sig .tc := ⟨.hbm, 77, rfl⟩
abbrev main_v46 : Ref sig .tc := ⟨.hbm, 78, rfl⟩
abbrev main_v47 : Ref sig .tc := ⟨.hbm, 79, rfl⟩
abbrev main_cst_25 : Ref sig .tc := ⟨.hbm, 80, rfl⟩
abbrev main_v48 : Ref sig .tc := ⟨.hbm, 81, rfl⟩
abbrev main_cst_26 : Ref sig .tc := ⟨.hbm, 82, rfl⟩
abbrev main_v49 : Ref sig .tc := ⟨.hbm, 83, rfl⟩
abbrev main_v50 : Ref sig .tc := ⟨.hbm, 84, rfl⟩
abbrev main_cst_27 : Ref sig .tc := ⟨.hbm, 85, rfl⟩
abbrev main_v51 : Ref sig .tc := ⟨.hbm, 86, rfl⟩
abbrev main_cst_28 : Ref sig .tc := ⟨.hbm, 87, rfl⟩
abbrev main_v52 : Ref sig .tc := ⟨.hbm, 88, rfl⟩
abbrev main_cst_29 : Ref sig .tc := ⟨.hbm, 89, rfl⟩
abbrev main_v53 : Ref sig .tc := ⟨.hbm, 90, rfl⟩
abbrev main_v54 : Ref sig .tc := ⟨.hbm, 91, rfl⟩
abbrev main_cst_30 : Ref sig .tc := ⟨.hbm, 92, rfl⟩
abbrev main_v55 : Ref sig .tc := ⟨.hbm, 93, rfl⟩
abbrev main_cst_31 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63_0 : Ref sig .tc := ⟨.hbm, 102, rfl⟩
abbrev main_v63_1 : Ref sig .tc := ⟨.hbm, 103, rfl⟩
abbrev main_v63_2 : Ref sig .tc := ⟨.hbm, 104, rfl⟩
abbrev main_v63_3 : Ref sig .tc := ⟨.hbm, 105, rfl⟩
abbrev main_v63_4 : Ref sig .tc := ⟨.hbm, 106, rfl⟩
abbrev main_v63_5 : Ref sig .tc := ⟨.hbm, 107, rfl⟩
abbrev main_v63_6 : Ref sig .tc := ⟨.hbm, 108, rfl⟩
abbrev main_v63_7 : Ref sig .tc := ⟨.hbm, 109, rfl⟩
abbrev main_v63_8 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x6144x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1664x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x6144x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x6144x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x6144x1664 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1664x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x6144x1664 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1664x1536 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x6144x1536 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Kernel.QuantiseW.Runs.lean ====
/-
  What the runs of the call that quantises the weights share: the blocks its windows read, when each branch of its body is taken,
  and the staging buffers it is handed at a point.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.QuantiseW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val :=
  (by decide +kernel : ∀ t : Fin grid0.N, cond0_1 (grid0.coords t) ↔ 1 ≤ t.val)

abbrev cond0_2 (i : grid0.Coords) : Prop := k0_cond3 i = 1#1
theorem hcond0_2 : ∀ t : Fin cfg0.N, cond0_2 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_2, k0_cond3, e0]
    word_cmp
   : ∀ t : Fin grid0.N, cond0_2 (grid0.coords t) ↔ t.val % 4 = 3)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleAt0_3_A : ∀ t : Fin cfg0.N, cond0_0 (grid0.coords t) → ¬cond0_1 (grid0.coords t) → ¬cond0_2 (grid0.coords t) → cfg0.idle 3 (grid0.coords t) = true := by decide +kernel
theorem noFlush0_3_A : ∀ t : Fin cfg0.N, cond0_0 (grid0.coords t) → ¬cond0_1 (grid0.coords t) → ¬cond0_2 (grid0.coords t) → (cfg0.win 3).flush t = false := by decide +kernel
theorem idleAt0_3_B : ∀ t : Fin cfg0.N, ¬cond0_0 (grid0.coords t) → cond0_1 (grid0.coords t) → ¬cond0_2 (grid0.coords t) → cfg0.idle 3 (grid0.coords t) = true := by decide +kernel
theorem noFlush0_3_B : ∀ t : Fin cfg0.N, ¬cond0_0 (grid0.coords t) → cond0_1 (grid0.coords t) → ¬cond0_2 (grid0.coords t) → (cfg0.win 3).flush t = false := by decide +kernel
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs: a subtype the run finds -/

abbrev VO0_2 : View sig .tc .vmem S416x1536 .fp8e4m3 := (Memref.whole cc0_stg2_0 : Memref sig .tc .vmem S416x1536 .fp8e4m3).view
abbrev VO0_3 : View sig .tc .vmem S1x1 .f32 := (Memref.whole cc0_stg3_0 : Memref sig .tc .vmem S1x1 .f32).view
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S416x1536 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev scM0_0 : Memref sig .tc .vmem S8x1536 .f32 := Memref.whole cc0_scratch0
abbrev VS0_0 : View sig .tc .vmem S8x1536 .f32 := scM0_0.view

/-- What the launch holds beside the carried scratch: every other scoped buffer, and the generator's register. -/
def Kept (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem PhiA0_eq (c : Dev nD) :
    (Pipeline.ΦA spec0 c : sProp 𝕄)
      = iprop(iprop((∃ d, owns (c : Thread nD τ) scM0_0 fullShare d)) ∗ Kept c) := by
  have assoc : ∀ P Q R : sProp 𝕄, iprop((P ∗ Q) ∗ R) = iprop(P ∗ Q ∗ R) := fun P Q R =>
    equiv_iff.mp ⟨Idealize.SL.BI.sep_assoc, Idealize.SL.BI.sep_assoc'⟩
  unfold Pipeline.ΦA Kept
  rw [Pipeline.scopedRest_split_of_list spec0 c [cc0_scratch0] (by decide) (by decide)]
  refine (assoc _ _ _).trans ?_
  simp only [scM0_0, owns_whole]; try rfl

end Cert.Kernel.QuantiseW

end
-- ==== Proof.Kernel.QuantiseW.RunA.lean ====
/-
  One run of the body of the call that quantises the weights at the first grid point: the stores it makes, found by the run.
-/
module

public import proofs.«01_k».proof.Proof.Kernel.QuantiseW.Runs

@[expose] public section

set_option maxRecDepth 16384

noncomputable section

namespace Cert.Kernel.QuantiseW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : cond0_0 i) (hc1 : ¬cond0_1 i) (hc2 : ¬cond0_2 i)
    (x0 : Vec F S1 .f32) (x1 : Vec F S416x1536 .f32) :
    Σ' (L2 : List (View.Piece (Elt F) S416x1536 .fp8e4m3)), Σ' (L3 : List (View.Piece (Elt F) S1x1 .f32)), { LS0 : List (View.Piece (Elt F) S8x1536 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_quantise_w i arg1 harg1 arg2 harg2 arg3 harg3 arg4 harg4 arg5 harg5) K } := by
  refine ⟨?_, [], ?_, fun xi3 E K => ?run⟩
  case run =>
    simp only [cc0_quantise_w_eq_skeleton]; unfold cc0_quantise_w_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.Kernel.QuantiseW

end
-- ==== Proof.Kernel.QuantiseW.RunB.lean ====
/-
  One run of the body of the call that quantises the weights at a middle grid point: the stores it makes, found by the run.
-/
module

public import proofs.«01_k».proof.Proof.Kernel.QuantiseW.RunA

@[expose] public section

set_option maxRecDepth 16384

noncomputable section

namespace Cert.Kernel.QuantiseW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : ¬cond0_2 i)
    (x0 : Vec F S1 .f32) (x1 : Vec F S416x1536 .f32) (xs0 : Vec F S8x1536 .f32) :
    Σ' (L2 : List (View.Piece (Elt F) S416x1536 .fp8e4m3)), Σ' (L3 : List (View.Piece (Elt F) S1x1 .f32)), { LS0 : List (View.Piece (Elt F) S8x1536 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_quantise_w i arg1 harg1 arg2 harg2 arg3 harg3 arg4 harg4 arg5 harg5) K } := by
  refine ⟨?_, [], ?_, fun xi3 E K => ?run⟩
  case run =>
    simp only [cc0_quantise_w_eq_skeleton]; unfold cc0_quantise_w_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.Kernel.QuantiseW

end
-- ==== Proof.Kernel.QuantiseW.RunC.lean ====
/-
  One run of the body of the call that quantises the weights at the last grid point: the stores it makes, found by the run.
-/
module

public import proofs.«01_k».proof.Proof.Kernel.QuantiseW.RunB

@[expose] public section

set_option maxRecDepth 16384

noncomputable section

namespace Cert.Kernel.QuantiseW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_C (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : cond0_2 i)
    (x0 : Vec F S1 .f32) (x1 : Vec F S416x1536 .f32) (xs0 : Vec F S8x1536 .f32) :
    Σ' (L2 : List (View.Piece (Elt F) S416x1536 .fp8e4m3)), Σ' (L3 : List (View.Piece (Elt F) S1x1 .f32)), { LS0 : List (View.Piece (Elt F) S8x1536 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_quantise_w i arg1 harg1 arg2 harg2 arg3 harg3 arg4 harg4 arg5 harg5) K } := by
  refine ⟨?_, ?_, ?_, fun E K => ?run⟩
  case run =>
    simp only [cc0_quantise_w_eq_skeleton]; unfold cc0_quantise_w_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.Kernel.QuantiseW

end
-- ==== Proof.Kernel.QuantiseW.Frame.lean ====
/-
  What every point of the call that quantises the weights leaves in its outputs and in its carried scratch, the invariant between
  points, and the obligation on the body at each point, for any contents of the arrays at entry.
-/
module

public import proofs.«01_k».proof.Proof.Kernel.QuantiseW.RunC
public import Idealize.ShloMosaic.Lib.Claim

@[expose] public section

set_option maxRecDepth 16384

noncomputable section

namespace Cert.Kernel.QuantiseW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : cond0_0 i) (hc1 : ¬cond0_1 i) (hc2 : ¬cond0_2 i)
    (x0 : Vec F S1 .f32) (x1 : Vec F S416x1536 .f32)

theorem cover0_A_2 (y : S416x1536.Idx) :
    ∃ pc ∈ (kernelRun0_A c i arg1 harg1 arg2 harg2 arg3 harg3 arg4 harg4 arg5 harg5 hc0 hc1 hc2 x0 x1).1, y ∈ pc.1.set :=
  View.cover_of_tiledL (kernelRun0_A c i arg1 harg1 arg2 harg2 arg3 harg3 arg4 harg4 arg5 harg5 hc0 hc1 hc2 x0 x1).1 S416x1536.size (by sl_kernel_rfl) y

def out0_A_2 : Vec F S416x1536 .fp8e4m3 :=
  VO0_2.read (Elt F) (VO0_2.writes (Elt F) VO0_2.junk (kernelRun0_A c i arg1 harg1 arg2 harg2 arg3 harg3 arg4 harg4 arg5 harg5 hc0 hc1 hc2 x0 x1).1)

def out0_A_3 : Vec F S1x1 .f32 :=
  VO0_3.read (Elt F) (VO0_3.writes (Elt F) VO0_3.junk (kernelRun0_A c i arg1 harg1 arg2 harg2 arg3 harg3 arg4 harg4 arg5 harg5 hc0 hc1 hc2 x0 x1).2.1)

theorem scover0_A_0 (y : S8x1536.Idx) :
    ∃ pc ∈ (kernelRun0_A c i arg1 harg1 arg2 harg2 arg3 harg3 arg4 harg4 arg5 harg5 hc0 hc1 hc2 x0 x1).2.2.1, y ∈ pc.1.set :=
  View.cover_of_tiledL (kernelRun0_A c i arg1 harg1 arg2 harg2 arg3 harg3 arg4 harg4 arg5 harg5 hc0 hc1 hc2 x0 x1).2.2.1 S8x1536.size (by sl_kernel_rfl) y

def sout0_A_0 : Vec F S8x1536 .f32 :=
  VS0_0.read (Elt F) (VS0_0.writes (Elt F) VS0_0.junk (kernelRun0_A c i arg1 harg1 arg2 harg2 arg3 harg3 arg4 harg4 arg5 harg5 hc0 hc1 hc2 x0 x1).2.2.1)

/-- Everything the body leaves in this case: the output blocks, then the carried scratch. -/
def leaves_A : Vec F S416x1536 .fp8e4m3 × Vec F S1x1 .f32 × Vec F S8x1536 .f32 :=
  (out0_A_2 c i arg1 harg1 arg2 harg2 arg3 harg3 arg4 harg4 arg5 harg5 hc0 hc1 hc2 x0 x1, out0_A_3 c i arg1 harg1 arg2 harg2 arg3 harg3 arg4 harg4 arg5 harg5 hc0 hc1 hc2 x0 x1, sout0_A_0 c i arg1 harg1 arg2 harg2 arg3 harg3 arg4 harg4 arg5 harg5 hc0 hc1 hc2 x0 x1)

end

section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : ¬cond0_2 i)
    (x0 : Vec F S1 .f32) (x1 : Vec F S416x1536 .f32) (xs0 : Vec F S8x1536 .f32)

theorem cover0_B_2 (y : S416x1536.Idx) :
    ∃ pc ∈ (kernelRun0_B c i arg1 harg1 arg2 harg2 arg3 harg3 arg4 harg4 arg5 harg5 hc0 hc1 hc2 x0 x1 xs0).1, y ∈ pc.1.set :=
  View.cover_of_tiledL (kernelRun0_B c i arg1 harg1 arg2 harg2 arg3 harg3 arg4 harg4 arg5 harg5 hc0 hc1 hc2 x0 x1 xs0).1 S416x1536.size (by sl_kernel_rfl) y

def out0_B_2 : Vec F S416x1536 .fp8e4m3 :=
  VO0_2.read (Elt F) (VO0_2.writes (Elt F) VO0_2.junk (kernelRun0_B c i arg1 harg1 arg2 harg2 arg3 harg3 arg4 harg4 arg5 harg5 hc0 hc1 hc2 x0 x1 xs0).1)

def out0_B_3 : Vec F S1x1 .f32 :=
  VO0_3.read (Elt F) (VO0_3.writes (Elt F) VO0_3.junk (kernelRun0_B c i arg1 harg1 arg2 harg2 arg3 harg3 arg4 harg4 arg5 harg5 hc0 hc1 hc2 x0 x1 xs0).2.1)

theorem scover0_B_0 (y : S8x1536.Idx) :
    ∃ pc ∈ (kernelRun0_B c i arg1 harg1 arg2 harg2 arg3 harg3 arg4 harg4 arg5 harg5 hc0 hc1 hc2 x0 x1 xs0).2.2.1, y ∈ pc.1.set :=
  View.cover_of_tiledL (kernelRun0_B c i arg1 harg1 arg2 harg2 arg3 harg3 arg4 harg4 arg5 harg5 hc0 hc1 hc2 x0 x1 xs0).2.2.1 S8x1536.size (by sl_kernel_rfl) y

def sout0_B_0 : Vec F S8x1536 .f32 :=
  VS0_0.read (Elt F) (VS0_0.writes (Elt F) VS0_0.junk (kernelRun0_B c i arg1 harg1 arg2 harg2 arg3 harg3 arg4 harg4 arg5 harg5 hc0 hc1 hc2 x0 x1 xs0).2.2.1)

/-- Everything the body leaves in this case: the output blocks, then the carried scratch. -/
def leaves_B : Vec F S416x1536 .fp8e4m3 × Vec F S1x1 .f32 × Vec F S8x1536 .f32 :=
  (out0_B_2 c i arg1 harg1 arg2 harg2 arg3 harg3 arg4 harg4 arg5 harg5 hc0 hc1 hc2 x0 x1 xs0, out0_B_3 c i arg1 harg1 arg2 harg2 arg3 harg3 arg4 harg4 arg5 harg5 hc0 hc1 hc2 x0 x1 xs0, sout0_B_0 c i arg1 harg1 arg2 harg2 arg3 harg3 arg4 harg4 arg5 harg5 hc0 hc1 hc2 x0 x1 xs0)

end

section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : cond0_2 i)
    (x0 : Vec F S1 .f32) (x1 : Vec F S416x1536 .f32) (xs0 : Vec F S8x1536 .f32)

theorem cover0_C_2 (y : S416x1536.Idx) :
    ∃ pc ∈ (kernelRun0_C c i arg1 harg1 arg2 harg2 arg3 harg3 arg4 harg4 arg5 harg5 hc0 hc1 hc2 x0 x1 xs0).1, y ∈ pc.1.set :=
  View.cover_of_tiledL (kernelRun0_C c i arg1 harg1 arg2 harg2 arg3 harg3 arg4 harg4 arg5 harg5 hc0 hc1 hc2 x0 x1 xs0).1 S416x1536.size (by sl_kernel_rfl) y

def out0_C_2 : Vec F S416x1536 .fp8e4m3 :=
  VO0_2.read (Elt F) (VO0_2.writes (Elt F) VO0_2.junk (kernelRun0_C c i arg1 harg1 arg2 harg2 arg3 harg3 arg4 harg4 arg5 harg5 hc0 hc1 hc2 x0 x1 xs0).1)

theorem cover0_C_3 (y : S1x1.Idx) :
    ∃ pc ∈ (kernelRun0_C c i arg1 harg1 arg2 harg2 arg3 harg3 arg4 harg4 arg5 harg5 hc0 hc1 hc2 x0 x1 xs0).2.1, y ∈ pc.1.set :=
  View.cover_of_tiledL (kernelRun0_C c i arg1 harg1 arg2 harg2 arg3 harg3 arg4 harg4 arg5 harg5 hc0 hc1 hc2 x0 x1 xs0).2.1 S1x1.size (by sl_kernel_rfl) y

def out0_C_3 : Vec F S1x1 .f32 :=
  VO0_3.read (Elt F) (VO0_3.writes (Elt F) VO0_3.junk (kernelRun0_C c i arg1 harg1 arg2 harg2 arg3 harg3 arg4 harg4 arg5 harg5 hc0 hc1 hc2 x0 x1 xs0).2.1)

theorem scover0_C_0 (y : S8x1536.Idx) :
    ∃ pc ∈ (kernelRun0_C c i arg1 harg1 arg2 harg2 arg3 harg3 arg4 harg4 arg5 harg5 hc0 hc1 hc2 x0 x1 xs0).2.2.1, y ∈ pc.1.set :=
  View.cover_of_tiledL (kernelRun0_C c i arg1 harg1 arg2 harg2 arg3 harg3 arg4 harg4 arg5 harg5 hc0 hc1 hc2 x0 x1 xs0).2.2.1 S8x1536.size (by sl_kernel_rfl) y

def sout0_C_0 : Vec F S8x1536 .f32 :=
  VS0_0.read (Elt F) (VS0_0.writes (Elt F) VS0_0.junk (kernelRun0_C c i arg1 harg1 arg2 harg2 arg3 harg3 arg4 harg4 arg5 harg5 hc0 hc1 hc2 x0 x1 xs0).2.2.1)

/-- Everything the body leaves in this case: the output blocks, then the carried scratch. -/
def leaves_C : Vec F S416x1536 .fp8e4m3 × Vec F S1x1 .f32 × Vec F S8x1536 .f32 :=
  (out0_C_2 c i arg1 harg1 arg2 harg2 arg3 harg3 arg4 harg4 arg5 harg5 hc0 hc1 hc2 x0 x1 xs0, out0_C_3 c i arg1 harg1 arg2 harg2 arg3 harg3 arg4 harg4 arg5 harg5 hc0 hc1 hc2 x0 x1 xs0, sout0_C_0 c i arg1 harg1 arg2 harg2 arg3 harg3 arg4 harg4 arg5 harg5 hc0 hc1 hc2 x0 x1 xs0)

end

/-! ## What the outputs hold after each point -/

def outsAt0 (c : Dev nD) : (n : ℕ) → n < cfg0.N → Vec F S416x1536 .fp8e4m3 × Vec F S1x1 .f32 × Vec F S8x1536 .f32
  | 0, hn => leaves_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩)
  | n + 1, hn =>
    if h0 : (n + 1) % 4 = 0 then
      if h1 : 1 ≤ (n + 1) then
        False.elim (by have hN : n + 1 < 4 := lt_of_lt_of_eq hn (show cfg0.N = 4 from N_0); omega)
      else
        if h2 : (n + 1) % 4 = 3 then
          False.elim (by have hN : n + 1 < 4 := lt_of_lt_of_eq hn (show cfg0.N = 4 from N_0); omega)
        else
          leaves_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩)
    else
      if h1 : 1 ≤ (n + 1) then
        if h2 : (n + 1) % 4 = 3 then
          leaves_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (outsAt0 c n (Nat.lt_of_succ_lt hn)).2.2
        else
          leaves_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (outsAt0 c n (Nat.lt_of_succ_lt hn)).2.2
      else
        False.elim (by have hN : n + 1 < 4 := lt_of_lt_of_eq hn (show cfg0.N = 4 from N_0); omega)

theorem outsAt0_A (c : Dev nD) (t : Fin cfg0.N) (h0 : t.val % 4 = 0) (h1 : ¬1 ≤ t.val) (h2 : ¬t.val % 4 = 3) :
    outsAt0 V c t.val t.isLt = leaves_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk V c 0 t) (iblk V c 1 t) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 4 = 0) (h1 : 1 ≤ t.val) (h2 : ¬t.val % 4 = 3) :
    outsAt0 V c t.val t.isLt = leaves_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk V c 0 t) (iblk V c 1 t) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 4 = 0) (h1 : 1 ≤ t.val) (h2 : t.val % 4 = 3) :
    outsAt0 V c t.val t.isLt = leaves_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk V c 0 t) (iblk V c 1 t) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_pos h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ Kept c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ Kept c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ Kept c) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]
theorem after0_3 (c : Dev nD) (t : Fin cfg0.N) : (dat V c).after 3 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg0.N = 4 from N_0)
  by_cases h0 : t.val % 4 = 0
  · by_cases h1 : 1 ≤ t.val
    · exfalso; omega
    · by_cases h2 : t.val % 4 = 3
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [Dat.leavesExact_idle (dat V c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold leaves_A; dsimp only; unfold out0_A_2 sout0_A_0; (try dsimp only)
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk V c 0 t) (iblk V c 1 t)).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_A_2 c _ _ _ _ _ _ _ _ _ _ _ _ _ _ _ _)
          iexists _; iexact H3
        · exfalso; have hN : t.val < 4 := lt_of_lt_of_eq t.isLt (show cfg0.N = 4 from N_0); omega
  · by_cases h1 : 1 ≤ t.val
    · by_cases h2 : t.val % 4 = 3
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3_C t (fun h => h0 ((hcond0_0 t).mp h)) ((hcond0_1 t).mpr h1) ((hcond0_2 t).mpr h2)], after0_3]
        by_cases hz : t.val = 0
        · exfalso; have hN : t.val < 4 := lt_of_lt_of_eq t.isLt (show cfg0.N = 4 from N_0); omega
        · rw [PhiS_castSucc V c t, PhiS_pos V c _ _ hz]
          rw [outsAt0_C V c t h0 h1 h2]
          unfold leaves_C; dsimp only; unfold out0_C_2 out0_C_3 sout0_C_0; (try dsimp only)
          iintro ⟨⟨HS0, Hg⟩, Ho, ⟨%d0, H0⟩, ⟨%d1, H1⟩, ⟨%d2, H2⟩, ⟨%d3, H3⟩⟩
          iapply ((kernelRun0_C c (grid0.coords t) _ _ _ _ _ _ _ _ _ _ (fun h => h0 ((hcond0_0 t).mp h)) ((hcond0_1 t).mpr h1) ((hcond0_2 t).mpr h2) (iblk V c 0 t) (iblk V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_C_2 c _ _ _ _ _ _ _ _ _ _ _ _ _ _ _ _ _)
          unfold owns; iexists _; isplitr
          swap; · iexact H3
          ipureintro; exact View.read_writes_of_cover _ _ _ _ _ (cover0_C_3 c _ _ _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [Dat.leavesExact_idle (dat V c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        by_cases hz : t.val = 0
        · exfalso; have hN : t.val < 4 := lt_of_lt_of_eq t.isLt (show cfg0.N = 4 from N_0); omega
        · rw [PhiS_castSucc V c t, PhiS_pos V c _ _ hz]
          rw [outsAt0_B V c t h0 h1 h2]
          unfold leaves_B; dsimp only; unfold out0_B_2 sout0_B_0; (try dsimp only)
          iintro ⟨⟨HS0, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) (fun h => h2 ((hcond0_2 t).mp h)) (iblk V c 0 t) (iblk V c 1 t) _).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_B_2 c _ _ _ _ _ _ _ _ _ _ _ _ _ _ _ _ _)
          iexists _; iexact H3
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dat V c).Φ (Fin.last cfg0.N) ⊢ Pipeline.ΦA spec0 c :=
  Phi_out V c _ (by rw [Fin.val_last]; have : cfg0.N = 4 := N_0; omega)

end Cert.Kernel.QuantiseW

end
-- ==== Proof.Kernel.Linear.Runs.lean ====
/-
  What the runs of the call that computes the products share: the blocks its windows read, when each branch of its body is taken,
  and the staging buffers it is handed at a point.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 18 = 0 :=
  (fun t => by
    have ht : t.val < 18 := Nat.lt_of_lt_of_eq t.isLt N_1
    have e0 : (grid1.coords t 0).val = t.val / 1 % 18 := Pipeline.Grid.coords_val t 0 (by decide) rfl
    simp only [cond1_0, e0]
    word_cmp
   : ∀ t : Fin grid1.N, cond1_0 (grid1.coords t) ↔ t.val % 18 = 0)

abbrev cond1_1 (i : grid1.Coords) : Prop := k1_cond2 i = 1#1
theorem hcond1_1 : ∀ t : Fin cfg1.N, cond1_1 (grid1.coords t) ↔ t.val % 18 = 17 :=
  (fun t => by
    have ht : t.val < 18 := Nat.lt_of_lt_of_eq t.isLt N_1
    have e0 : (grid1.coords t 0).val = t.val / 1 % 18 := Pipeline.Grid.coords_val t 0 (by decide) rfl
    simp only [cond1_1, k1_cond2, e0]
    word_cmp
   : ∀ t : Fin grid1.N, cond1_1 (grid1.coords t) ↔ t.val % 18 = 17)

/-! ## Where the windows are idle (the printed configuration's table `Cfg.idle`) -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem idleAt1_9_A : ∀ t : Fin cfg1.N, cond1_0 (grid1.coords t) → ¬cond1_1 (grid1.coords t) → cfg1.idle 9 (grid1.coords t) = true := by decide +kernel
theorem noFlush1_9_A : ∀ t : Fin cfg1.N, cond1_0 (grid1.coords t) → ¬cond1_1 (grid1.coords t) → (cfg1.win 9).flush t = false := by decide +kernel
theorem idleAt1_9_B : ∀ t : Fin cfg1.N, ¬cond1_0 (grid1.coords t) → ¬cond1_1 (grid1.coords t) → cfg1.idle 9 (grid1.coords t) = true := by decide +kernel
theorem noFlush1_9_B : ∀ t : Fin cfg1.N, ¬cond1_0 (grid1.coords t) → ¬cond1_1 (grid1.coords t) → (cfg1.win 9).flush t = false := by decide +kernel
theorem liveAt1_9_C : ∀ t : Fin cfg1.N, ¬cond1_0 (grid1.coords t) → cond1_1 (grid1.coords t) → cfg1.idle 9 (grid1.coords t) = false := by decide +kernel
theorem idleAt1_10_A : ∀ t : Fin cfg1.N, cond1_0 (grid1.coords t) → ¬cond1_1 (grid1.coords t) → cfg1.idle 10 (grid1.coords t) = true := by decide +kernel
theorem noFlush1_10_A : ∀ t : Fin cfg1.N, cond1_0 (grid1.coords t) → ¬cond1_1 (grid1.coords t) → (cfg1.win 10).flush t = false := by decide +kernel
theorem idleAt1_10_B : ∀ t : Fin cfg1.N, ¬cond1_0 (grid1.coords t) → ¬cond1_1 (grid1.coords t) → cfg1.idle 10 (grid1.coords t) = true := by decide +kernel
theorem noFlush1_10_B : ∀ t : Fin cfg1.N, ¬cond1_0 (grid1.coords t) → ¬cond1_1 (grid1.coords t) → (cfg1.win 10).flush t = false := by decide +kernel
theorem liveAt1_10_C : ∀ t : Fin cfg1.N, ¬cond1_0 (grid1.coords t) → cond1_1 (grid1.coords t) → cfg1.idle 10 (grid1.coords t) = false := by decide +kernel

/-! ## The kernel body on any staging memrefs: a subtype the run finds -/

abbrev VO1_4 : View sig .tc .vmem S128x8x1536 .bf16 := (Memref.whole cc1_stg4_0 : Memref sig .tc .vmem S128x8x1536 .bf16).view
abbrev VO1_5 : View sig .tc .vmem S128x8x1664 .bf16 := (Memref.whole cc1_stg5_0 : Memref sig .tc .vmem S128x8x1664 .bf16).view
abbrev VO1_6 : View sig .tc .vmem S1664x1536 .f32 := (Memref.whole cc1_stg6_0 : Memref sig .tc .vmem S1664x1536 .f32).view
abbrev VO1_7 : View sig .tc .vmem S1x1024x1664 .fp8e4m3 := (Memref.whole cc1_stg7_0 : Memref sig .tc .vmem S1x1024x1664 .fp8e4m3).view
abbrev VO1_8 : View sig .tc .vmem S1x1024x1536 .fp8e5m2 := (Memref.whole cc1_stg8_0 : Memref sig .tc .vmem S1x1024x1536 .fp8e5m2).view
abbrev VO1_9 : View sig .tc .vmem S1x1 .f32 := (Memref.whole cc1_stg9_0 : Memref sig .tc .vmem S1x1 .f32).view
abbrev VO1_10 : View sig .tc .vmem S1x1 .f32 := (Memref.whole cc1_stg10_0 : Memref sig .tc .vmem S1x1 .f32).view
abbrev ms1_0 (t : Fin cfg1.N) : Memref sig .tc .smem S5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1664 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1536 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1664x1536 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x8x1536 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x8x1664 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1664x1536 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x1664 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1024x1536 .fp8e5m2 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev scM1_0 : Memref sig .tc .vmem S8x1664 .bf16 := Memref.whole cc1_scratch0
abbrev scM1_1 : Memref sig .tc .vmem S8x1536 .bf16 := Memref.whole cc1_scratch1
abbrev VS1_0 : View sig .tc .vmem S8x1664 .bf16 := scM1_0.view
abbrev VS1_1 : View sig .tc .vmem S8x1536 .bf16 := scM1_1.view

/-- What the launch holds beside the carried scratch: every other scoped buffer, and the generator's register. -/
def Kept (c : Dev nD) : sProp 𝕄 :=
  iprop(Pipeline.scopedRestBut (Ix := Unit) (Name := ℕ) (U := UR sig nD τ) (Lvl := ℕ) (Val := Elt F) spec1 c [cc1_scratch0, cc1_scratch1] ∗ ∃ r, prngReg c r)

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ Kept c) := by
  have assoc : ∀ P Q R : sProp 𝕄, iprop((P ∗ Q) ∗ R) = iprop(P ∗ Q ∗ R) := fun P Q R =>
    equiv_iff.mp ⟨Idealize.SL.BI.sep_assoc, Idealize.SL.BI.sep_assoc'⟩
  unfold Pipeline.ΦA Kept
  rw [Pipeline.scopedRest_split_of_list spec1 c [cc1_scratch0, cc1_scratch1] (by decide) (by decide)]
  refine (assoc _ _ _).trans ?_
  simp only [scM1_0, scM1_1, owns_whole]; try rfl

end Cert.Kernel.Linear

end
-- ==== Proof.Kernel.Linear.RunA.lean ====
/-
  One run of the body of the call that computes the products at the first grid point: the stores it makes, found by the run.
-/
module

public import proofs.«01_k».proof.Proof.Kernel.Linear.Runs

@[expose] public section

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : cond1_0 i) (hc1 : ¬cond1_1 i)
    (x0 : Vec F S5 .f32) (x1 : Vec F S1x1024x1664 .bf16) (x2 : Vec F S1x1024x1536 .bf16) (x3 : Vec F S1664x1536 .fp8e4m3) :
    Σ' (L4 : List (View.Piece (Elt F) S128x8x1536 .bf16)), Σ' (L5 : List (View.Piece (Elt F) S128x8x1664 .bf16)), Σ' (L6 : List (View.Piece (Elt F) S1664x1536 .f32)), Σ' (L7 : List (View.Piece (Elt F) S1x1024x1664 .fp8e4m3)), Σ' (L8 : List (View.Piece (Elt F) S1x1024x1536 .fp8e5m2)), Σ' (L9 : List (View.Piece (Elt F) S1x1 .f32)), Σ' (L10 : List (View.Piece (Elt F) S1x1 .f32)), Σ' (LS0 : List (View.Piece (Elt F) S8x1664 .bf16)), { LS1 : List (View.Piece (Elt F) S8x1536 .bf16) //
      ∀ (xi9 : Vec F S1x1 .f32) (xi10 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_fp8_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, [], [], ?_, ?_, fun xi9 xi10 E K => ?run⟩
  case run =>
    simp only [cc1_fp8_linear_eq_skeleton]; unfold cc1_fp8_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Linear

end
-- ==== Proof.Kernel.Linear.RunB.lean ====
/-
  One run of the body of the call that computes the products at a middle grid point: the stores it makes, found by the run.
-/
module

public import proofs.«01_k».proof.Proof.Kernel.Linear.RunA

@[expose] public section

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : ¬cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16) :
    Σ' (L4 : List (View.Piece (Elt F) S128x8x1536 .bf16)), Σ' (L5 : List (View.Piece (Elt F) S128x8x1664 .bf16)), Σ' (L6 : List (View.Piece (Elt F) S1664x1536 .f32)), Σ' (L7 : List (View.Piece (Elt F) S1x1024x1664 .fp8e4m3)), Σ' (L8 : List (View.Piece (Elt F) S1x1024x1536 .fp8e5m2)), Σ' (L9 : List (View.Piece (Elt F) S1x1 .f32)), Σ' (L10 : List (View.Piece (Elt F) S1x1 .f32)), Σ' (LS0 : List (View.Piece (Elt F) S8x1664 .bf16)), { LS1 : List (View.Piece (Elt F) S8x1536 .bf16) //
      ∀ (xi9 : Vec F S1x1 .f32) (xi10 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_fp8_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, [], [], ?_, ?_, fun xi9 xi10 E K => ?run⟩
  case run =>
    simp only [cc1_fp8_linear_eq_skeleton]; unfold cc1_fp8_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg10.eq_unread hf9; obtain rfl := harg11.eq_unread hf10; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Linear

end
-- ==== Proof.Kernel.Linear.RunC.lean ====
/-
  One run of the body of the call that computes the products at the last grid point: the stores it makes, found by the run.
-/
module

public import proofs.«01_k».proof.Proof.Kernel.Linear.RunB

@[expose] public section

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_C (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16) :
    Σ' (L4 : List (View.Piece (Elt F) S128x8x1536 .bf16)), Σ' (L5 : List (View.Piece (Elt F) S128x8x1664 .bf16)), Σ' (L6 : List (View.Piece (Elt F) S1664x1536 .f32)), Σ' (L7 : List (View.Piece (Elt F) S1x1024x1664 .fp8e4m3)), Σ' (L8 : List (View.Piece (Elt F) S1x1024x1536 .fp8e5m2)), Σ' (L9 : List (View.Piece (Elt F) S1x1 .f32)), Σ' (L10 : List (View.Piece (Elt F) S1x1 .f32)), Σ' (LS0 : List (View.Piece (Elt F) S8x1664 .bf16)), { LS1 : List (View.Piece (Elt F) S8x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_fp8_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, fun E K => ?run⟩
  case run =>
    simp only [cc1_fp8_linear_eq_skeleton]; unfold cc1_fp8_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    iexists _; iexact HS1

end Cert.Kernel.Linear

end
-- ==== Proof.Kernel.Linear.Frame.lean ====
/-
  What every point of the call that computes the products leaves in its outputs and in its carried scratch, the invariant between
  points, and the obligation on the body at each point, for any contents of the arrays at entry.
-/
module

public import proofs.«01_k».proof.Proof.Kernel.Linear.RunC
public import Idealize.ShloMosaic.Lib.Claim

@[expose] public section

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : cond1_0 i) (hc1 : ¬cond1_1 i)
    (x0 : Vec F S5 .f32) (x1 : Vec F S1x1024x1664 .bf16) (x2 : Vec F S1x1024x1536 .bf16) (x3 : Vec F S1664x1536 .fp8e4m3)

theorem cover1_A_4 (y : S128x8x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1 S128x8x1536.size (by sl_kernel_rfl) y

def out1_A_4 : Vec F S128x8x1536 .bf16 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1)

theorem cover1_A_5 (y : S128x8x1664.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1 S128x8x1664.size (by sl_kernel_rfl) y

def out1_A_5 : Vec F S128x8x1664 .bf16 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1)

theorem cover1_A_6 (y : S1664x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1 S1664x1536.size (by sl_kernel_rfl) y

def out1_A_6 : Vec F S1664x1536 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1)

theorem cover1_A_7 (y : S1x1024x1664.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1 S1x1024x1664.size (by sl_kernel_rfl) y

def out1_A_7 : Vec F S1x1024x1664 .fp8e4m3 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1)

theorem cover1_A_8 (y : S1x1024x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1 S1x1024x1536.size (by sl_kernel_rfl) y

def out1_A_8 : Vec F S1x1024x1536 .fp8e5m2 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1)

def out1_A_9 : Vec F S1x1 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1)

def out1_A_10 : Vec F S1x1 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.1)

theorem scover1_A_0 (y : S8x1664.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1 S8x1664.size (by sl_kernel_rfl) y

def sout1_A_0 : Vec F S8x1664 .bf16 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1)

theorem scover1_A_1 (y : S8x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1 S8x1536.size (by sl_kernel_rfl) y

def sout1_A_1 : Vec F S8x1536 .bf16 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1)

/-- Everything the body leaves in this case: the output blocks, then the carried scratch. -/
def leaves_A : Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16 :=
  (out1_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, sout1_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, sout1_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

end

section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : ¬cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16)

theorem cover1_B_4 (y : S128x8x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1 S128x8x1536.size (by sl_kernel_rfl) y

def out1_B_4 : Vec F S128x8x1536 .bf16 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1)

theorem cover1_B_5 (y : S128x8x1664.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1 S128x8x1664.size (by sl_kernel_rfl) y

def out1_B_5 : Vec F S128x8x1664 .bf16 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1)

theorem cover1_B_6 (y : S1664x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1 S1664x1536.size (by sl_kernel_rfl) y

def out1_B_6 : Vec F S1664x1536 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1)

theorem cover1_B_7 (y : S1x1024x1664.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1 S1x1024x1664.size (by sl_kernel_rfl) y

def out1_B_7 : Vec F S1x1024x1664 .fp8e4m3 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1)

theorem cover1_B_8 (y : S1x1024x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1 S1x1024x1536.size (by sl_kernel_rfl) y

def out1_B_8 : Vec F S1x1024x1536 .fp8e5m2 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1)

def out1_B_9 : Vec F S1x1 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1)

def out1_B_10 : Vec F S1x1 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1)

theorem scover1_B_0 (y : S8x1664.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1 S8x1664.size (by sl_kernel_rfl) y

def sout1_B_0 : Vec F S8x1664 .bf16 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1)

theorem scover1_B_1 (y : S8x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1 S8x1536.size (by sl_kernel_rfl) y

def sout1_B_1 : Vec F S8x1536 .bf16 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1)

/-- Everything the body leaves in this case: the output blocks, then the carried scratch. -/
def leaves_B : Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16 :=
  (out1_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1)

end

section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16)

theorem cover1_C_4 (y : S128x8x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1 S128x8x1536.size (by sl_kernel_rfl) y

def out1_C_4 : Vec F S128x8x1536 .bf16 :=
  VO1_4.read (Elt F) (VO1_4.writes (Elt F) VO1_4.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1)

theorem cover1_C_5 (y : S128x8x1664.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1 S128x8x1664.size (by sl_kernel_rfl) y

def out1_C_5 : Vec F S128x8x1664 .bf16 :=
  VO1_5.read (Elt F) (VO1_5.writes (Elt F) VO1_5.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1)

theorem cover1_C_6 (y : S1664x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1 S1664x1536.size (by sl_kernel_rfl) y

def out1_C_6 : Vec F S1664x1536 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1)

theorem cover1_C_7 (y : S1x1024x1664.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1 S1x1024x1664.size (by sl_kernel_rfl) y

def out1_C_7 : Vec F S1x1024x1664 .fp8e4m3 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1)

theorem cover1_C_8 (y : S1x1024x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1 S1x1024x1536.size (by sl_kernel_rfl) y

def out1_C_8 : Vec F S1x1024x1536 .fp8e5m2 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1)

theorem cover1_C_9 (y : S1x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1 S1x1.size (by sl_kernel_rfl) y

def out1_C_9 : Vec F S1x1 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1)

theorem cover1_C_10 (y : S1x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1 S1x1.size (by sl_kernel_rfl) y

def out1_C_10 : Vec F S1x1 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1)

theorem scover1_C_0 (y : S8x1664.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1 S8x1664.size (by sl_kernel_rfl) y

def sout1_C_0 : Vec F S8x1664 .bf16 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1)

theorem scover1_C_1 (y : S8x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1 S8x1536.size (by sl_kernel_rfl) y

def sout1_C_1 : Vec F S8x1536 .bf16 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1)

/-- Everything the body leaves in this case: the output blocks, then the carried scratch. -/
def leaves_C : Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16 :=
  (out1_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1)

end

/-! ## What the outputs hold after each point -/

def outsAt1 (c : Dev nD) : (n : ℕ) → n < cfg1.N → Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16
  | 0, hn => leaves_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 18 = 0 then
      if h1 : (n + 1) % 18 = 17 then
        False.elim (by have hN : n + 1 < 18 := lt_of_lt_of_eq hn (show cfg1.N = 18 from N_1); omega)
      else
        leaves_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩)
    else
      if h1 : (n + 1) % 18 = 17 then
        leaves_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.1 (outsAt1 c n (Nat.lt_of_succ_lt hn)).2.2.2.2.2.2.2.1 (outsAt1 c n (Nat.lt_of_succ_lt hn)).2.2.2.2.2.2.2.2
      else
        leaves_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.1 (outsAt1 c n (Nat.lt_of_succ_lt hn)).2.2.2.2.2.2.2.1 (outsAt1 c n (Nat.lt_of_succ_lt hn)).2.2.2.2.2.2.2.2

theorem outsAt1_A (c : Dev nD) (t : Fin cfg1.N) (h0 : t.val % 18 = 0) (h1 : ¬t.val % 18 = 17) :
    outsAt1 V c t.val t.isLt = leaves_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk V c 0 t) (iblk V c 1 t) (iblk V c 2 t) (iblk V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 18 = 0) (h1 : ¬t.val % 18 = 17) :
    outsAt1 V c t.val t.isLt = leaves_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.1 (outsAt1 V c (t.val - 1) (Nat.lt_of_le_of_lt (Nat.sub_le _ _) t.isLt)).2.2.2.2.2.2.2.1 (outsAt1 V c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 18 = 0) (h1 : t.val % 18 = 17) :
    outsAt1 V c t.val t.isLt = leaves_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.1 (outsAt1 V c (t.val - 1) (Nat.lt_of_le_of_lt (Nat.sub_le _ _) t.isLt)).2.2.2.2.2.2.2.1 (outsAt1 V c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2.2.2.2.1) ∗ owns (c : Thread nD τ) scM1_1 fullShare ((outsAt1 V c n hn).2.2.2.2.2.2.2.2)) ∗ Kept c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2.2.2.2.2.2.1) ∗ owns (c : Thread nD τ) scM1_1 fullShare ((outsAt1 V c n hn).2.2.2.2.2.2.2.2)) ∗ Kept c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2.2.2.2.1) ∗ owns (c : Thread nD τ) scM1_1 fullShare ((outsAt1 V c (n - 1) (by omega)).2.2.2.2.2.2.2.2)) ∗ Kept c) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2.1
    | ⟨10, _⟩ => (outsAt1 V c t.val t.isLt).2.2.2.2.2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = (outsAt1 V c t.val t.isLt).1 := by dsimp only [dat]
theorem after1_5 (c : Dev nD) (t : Fin cfg1.N) : (dat V c).after 5 t = (outsAt1 V c t.val t.isLt).2.1 := by dsimp only [dat]
theorem after1_6 (c : Dev nD) (t : Fin cfg1.N) : (dat V c).after 6 t = (outsAt1 V c t.val t.isLt).2.2.1 := by dsimp only [dat]
theorem after1_7 (c : Dev nD) (t : Fin cfg1.N) : (dat V c).after 7 t = (outsAt1 V c t.val t.isLt).2.2.2.1 := by dsimp only [dat]
theorem after1_8 (c : Dev nD) (t : Fin cfg1.N) : (dat V c).after 8 t = (outsAt1 V c t.val t.isLt).2.2.2.2.1 := by dsimp only [dat]
theorem after1_9 (c : Dev nD) (t : Fin cfg1.N) : (dat V c).after 9 t = (outsAt1 V c t.val t.isLt).2.2.2.2.2.1 := by dsimp only [dat]
theorem after1_10 (c : Dev nD) (t : Fin cfg1.N) : (dat V c).after 10 t = (outsAt1 V c t.val t.isLt).2.2.2.2.2.2.1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_6_B (c : Dev nD) (t : Fin cfg1.N) (h0 : ¬t.val % 18 = 0) (h1 : ¬t.val % 18 = 17) (d) :
    (dat V c).before 6 t d = (outsAt1 V c (t.val - 1) (Nat.lt_of_le_of_lt (Nat.sub_le _ _) t.isLt)).2.2.1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat]
theorem before1_6_C (c : Dev nD) (t : Fin cfg1.N) (h0 : ¬t.val % 18 = 0) (h1 : t.val % 18 = 17) (d) :
    (dat V c).before 6 t d = (outsAt1 V c (t.val - 1) (Nat.lt_of_le_of_lt (Nat.sub_le _ _) t.isLt)).2.2.1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 14400000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat V c).owesAt () t.succ = (dat V c).owesAt () t.castSucc from rfl]
  rw [show (dat V c).Φ t.succ = PhiS V c (t.val + 1) t.isLt from rfl, PhiS_succ]
  have hN : t.val < 18 := lt_of_lt_of_eq t.isLt (show cfg1.N = 18 from N_1)
  by_cases h0 : t.val % 18 = 0
  · by_cases h1 : t.val % 18 = 17
    · exfalso; omega
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [show (dat V c).leavesExact 6 t = owns (c : Thread nD τ) (ms1_6 t) fullShare ((dat V c).after 6 t) from by
      unfold Dat.leavesExact; rw [liveAt1_6 t], after1_6]
      rw [show (dat V c).leavesExact 7 t = owns (c : Thread nD τ) (ms1_7 t) fullShare ((dat V c).after 7 t) from by
      unfold Dat.leavesExact; rw [liveAt1_7 t], after1_7]
      rw [show (dat V c).leavesExact 8 t = owns (c : Thread nD τ) (ms1_8 t) fullShare ((dat V c).after 8 t) from by
      unfold Dat.leavesExact; rw [liveAt1_8 t], after1_8]
      rw [Dat.leavesExact_idle (dat V c) 9 t (idleAt1_9_A t ((hcond1_0 t).mpr h0) (fun h => h1 ((hcond1_1 t).mp h))) (noFlush1_9_A t ((hcond1_0 t).mpr h0) (fun h => h1 ((hcond1_1 t).mp h)))]
      rw [Dat.leavesExact_idle (dat V c) 10 t (idleAt1_10_A t ((hcond1_0 t).mpr h0) (fun h => h1 ((hcond1_1 t).mp h))) (noFlush1_10_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold leaves_A; dsimp only; unfold out1_A_4 out1_A_5 out1_A_6 out1_A_7 out1_A_8 sout1_A_0 sout1_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ _ _ ((hcond1_0 t).mpr h0) (fun h => h1 ((hcond1_1 t).mp h)) (iblk V c 0 t) (iblk V c 1 t) (iblk V c 2 t) (iblk V c 3 t)).2.2.2.2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexact H9
        isplitl [H10]; · iexact H10
        isplitl [HS0]; · iexact HS0
        isplitl [HS1]; · iexact HS1
        iintro ⟨H0, H1, H2, H3, ⟨%e4, H4⟩, ⟨%e5, H5⟩, ⟨%e6, H6⟩, ⟨%e7, H7⟩, ⟨%e8, H8⟩, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_A_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover1_A_7 c _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover1_A_8 c _ _ _ _ _ _ _ _ _ _ _ _ _ _ _ _ _ _ _ _ _ _ _ _ _ _ _ _ _ _ _ _ _)
        isplitl [H9]; · iexists _; iexact H9
        iexists _; iexact H10
      · exfalso; have hN : t.val < 18 := lt_of_lt_of_eq t.isLt (show cfg1.N = 18 from N_1); omega
  · by_cases h1 : t.val % 18 = 17
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [show (dat V c).leavesExact 6 t = owns (c : Thread nD τ) (ms1_6 t) fullShare ((dat V c).after 6 t) from by
      unfold Dat.leavesExact; rw [liveAt1_6 t], after1_6]
      rw [show (dat V c).leavesExact 7 t = owns (c : Thread nD τ) (ms1_7 t) fullShare ((dat V c).after 7 t) from by
      unfold Dat.leavesExact; rw [liveAt1_7 t], after1_7]
      rw [show (dat V c).leavesExact 8 t = owns (c : Thread nD τ) (ms1_8 t) fullShare ((dat V c).after 8 t) from by
      unfold Dat.leavesExact; rw [liveAt1_8 t], after1_8]
      rw [show (dat V c).leavesExact 9 t = owns (c : Thread nD τ) (ms1_9 t) fullShare ((dat V c).after 9 t) from by
      unfold Dat.leavesExact; rw [liveAt1_9_C t (fun h => h0 ((hcond1_0 t).mp h)) ((hcond1_1 t).mpr h1)], after1_9]
      rw [show (dat V c).leavesExact 10 t = owns (c : Thread nD τ) (ms1_10 t) fullShare ((dat V c).after 10 t) from by
      unfold Dat.leavesExact; rw [liveAt1_10_C t (fun h => h0 ((hcond1_0 t).mp h)) ((hcond1_1 t).mpr h1)], after1_10]
      by_cases hz : t.val = 0
      · exfalso; have hN : t.val < 18 := lt_of_lt_of_eq t.isLt (show cfg1.N = 18 from N_1); omega
      · rw [PhiS_castSucc V c t, PhiS_pos V c _ _ hz]
        rw [outsAt1_C V c t h0 h1]
        simp only [before1_6_C V c t h0 h1]
        unfold leaves_C; dsimp only; unfold out1_C_4 out1_C_5 out1_C_6 out1_C_7 out1_C_8 out1_C_9 out1_C_10 sout1_C_0 sout1_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ _ _ (fun h => h0 ((hcond1_0 t).mp h)) ((hcond1_1 t).mpr h1) (iblk V c 0 t) (iblk V c 1 t) (iblk V c 2 t) (iblk V c 3 t) _ _ _).2.2.2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, ⟨%e4, H4⟩, ⟨%e5, H5⟩, ⟨%e6, H6⟩, ⟨%e7, H7⟩, ⟨%e8, H8⟩, ⟨%e9, H9⟩, ⟨%e10, H10⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover1_C_7 c _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover1_C_8 c _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover1_C_9 c _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _)
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [show (dat V c).leavesExact 6 t = owns (c : Thread nD τ) (ms1_6 t) fullShare ((dat V c).after 6 t) from by
      unfold Dat.leavesExact; rw [liveAt1_6 t], after1_6]
      rw [show (dat V c).leavesExact 7 t = owns (c : Thread nD τ) (ms1_7 t) fullShare ((dat V c).after 7 t) from by
      unfold Dat.leavesExact; rw [liveAt1_7 t], after1_7]
      rw [show (dat V c).leavesExact 8 t = owns (c : Thread nD τ) (ms1_8 t) fullShare ((dat V c).after 8 t) from by
      unfold Dat.leavesExact; rw [liveAt1_8 t], after1_8]
      rw [Dat.leavesExact_idle (dat V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
      rw [Dat.leavesExact_idle (dat V c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      by_cases hz : t.val = 0
      · exfalso; have hN : t.val < 18 := lt_of_lt_of_eq t.isLt (show cfg1.N = 18 from N_1); omega
      · rw [PhiS_castSucc V c t, PhiS_pos V c _ _ hz]
        rw [outsAt1_B V c t h0 h1]
        simp only [before1_6_B V c t h0 h1]
        unfold leaves_B; dsimp only; unfold out1_B_4 out1_B_5 out1_B_6 out1_B_7 out1_B_8 sout1_B_0 sout1_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk V c 0 t) (iblk V c 1 t) (iblk V c 2 t) (iblk V c 3 t) _ _ _).2.2.2.2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexists _; iexact H7
        isplitl [H8]; · iexists _; iexact H8
        isplitl [H9]; · iexact H9
        isplitl [H10]; · iexact H10
        isplitl [HS0]; · iexact HS0
        isplitl [HS1]; · iexact HS1
        iintro ⟨H0, H1, H2, H3, ⟨%e4, H4⟩, ⟨%e5, H5⟩, ⟨%e6, H6⟩, ⟨%e7, H7⟩, ⟨%e8, H8⟩, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_B_5 c _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_B_6 c _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover1_B_7 c _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover1_B_8 c _ _ _ _ _ _ _ _ _ _ _ _ _ _ _ _ _ _ _ _ _ _ _ _ _ _ _ _ _ _ _ _ _ _ _ _)
        isplitl [H9]; · iexists _; iexact H9
        iexists _; iexact H10

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexists _; iexact HS0
    iexists _; iexact HS1
  iexact Hg

theorem hout (c : Dev nD) : (dat V c).Φ (Fin.last cfg1.N) ⊢ Pipeline.ΦA spec1 c :=
  Phi_out V c _ (by rw [Fin.val_last]; have : cfg1.N = 18 := N_1; omega)

end Cert.Kernel.Linear

end
-- ==== Proof.Kernel.Whole.lean ====
/-
  The whole program's run: the host stretch that computes the three scales, the call that quantises the weights, the
  host stretch that gathers the scalars, the call that computes the products, and the host stretch that shapes the
  results. What every buffer holds at each boundary is a fold through these five parts; every execution ends with every
  buffer at the last boundary's contents, and with every semaphore counter at zero.
-/
module

public import proofs.«01_k».proof.Proof.Kernel.QuantiseW.Frame
public import proofs.«01_k».proof.Proof.Kernel.Linear.Frame
public import proofs.«01_k».proof.Proof.Gen.Kernel.Regions
public import Idealize.ShloMosaic.Lib.Pipeline.RegionsLoop
public import Idealize.ShloMosaic.Lib.Pipeline.FrameSuffix
public import Idealize.ShloMosaic.Lib.Tactic
public import Idealize.ShloMosaic.Lib.Quiescent

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's six arguments. -/
abbrev argRefs : List (Ref sig .tc) := [main_arg0, main_arg1, main_arg2, main_arg3, main_arg4, main_arg5]

/-! ## The buffers' contents at each boundary -/

/-- What the first call finds: the arguments, and the scales the host has computed. -/
abbrev E0 : (c : Dev nD) → (b : Ref sig .tc) → Buf (Elt F) ((c : Thread nD τ).loc b) := fun c b => V7 m c b

theorem V7_args (c : Dev nD) (a : Ref sig .tc) (ha : a ∈ argRefs) : V7 m c a = m ((c : Thread nD τ).loc a) := by
  rw [V7_of m c a (ListAll.forall_mem_of_all_decide (p := fun a => a ∉ hostOps0_6_W) (l := argRefs) (by decide +kernel) a ha),
    V6_of m c a (ListAll.forall_mem_of_all_decide (p := fun a => a ∉ hostOps0_5_W) (l := argRefs) (by decide +kernel) a ha),
    V5_of m c a (ListAll.forall_mem_of_all_decide (p := fun a => a ∉ hostOps0_4_W) (l := argRefs) (by decide +kernel) a ha),
    V4_of m c a (ListAll.forall_mem_of_all_decide (p := fun a => a ∉ hostOps0_3_W) (l := argRefs) (by decide +kernel) a ha),
    V3_of m c a (ListAll.forall_mem_of_all_decide (p := fun a => a ∉ hostOps0_2_W) (l := argRefs) (by decide +kernel) a ha),
    V2_of m c a (ListAll.forall_mem_of_all_decide (p := fun a => a ∉ hostOps0_1_W) (l := argRefs) (by decide +kernel) a ha),
    V1_of m c a (ListAll.forall_mem_of_all_decide (p := fun a => a ∉ hostOps0_W) (l := argRefs) (by decide +kernel) a ha)]

/-- After the first call: its arrays at what it leaves, every other buffer as entered. -/
def W8 (c : Dev nD) : Valuation τ sig (Elt F) :=
  Pipeline.withArrays spec0 c (V7 m c) fun w => (QuantiseW.dat (E0 m) c).arrAt w cfg0.N

theorem W8_arr (c : Dev nD) (w : Fin cfg0.W) :
    W8 m c (Proc.devRef .tc (Pipeline.arrRef spec0 w)) = (QuantiseW.dat (E0 m) c).arrAt w cfg0.N := by
  unfold W8; exact Pipeline.withArrays_arr spec0 launch0.win.arr_inj c _ _ w

theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb

/-- A buffer that is no output of the first call keeps its contents across it. -/
theorem W8_of (c : Dev nD) (r : Ref sig .tc) (h : ∀ w : Fin cfg0.W, Pipeline.arrRef spec0 w = r → (cfg0.win w).isOut = false) :
    W8 m c (Proc.devRef .tc r) = V7 m c (Proc.devRef .tc r) := by
  by_cases hw : ∃ w : Fin cfg0.W, Pipeline.arrRef spec0 w = r
  · obtain ⟨w, rfl⟩ := hw
    exact (W8_arr m c w).trans (((QuantiseW.dat (E0 m) c).arrAt_in w (h w rfl) _).trans (QuantiseW.A_eq (E0 m) c w))
  · exact W8_of_ne m c r fun w e => hw ⟨w, e⟩

abbrev X0 : (c : Dev nD) → (b : Ref sig .tc) → Buf (Elt F) ((c : Thread nD τ).loc b) := fun c b => W8 m c b

theorem hF0 (c : Dev nD) (w : Fin cfg0.W) : (QuantiseW.dat (E0 m) c).arrAt w cfg0.N = X0 m c (Pipeline.arrRef spec0 w) :=
  (W8_arr m c w).symm
theorem hrest0 (c : Dev nD) : ∀ b, b ∉ Finset.univ.image (Pipeline.arrRef spec0) → X0 m c b = E0 m c b :=
  fun b hb => W8_of_ne m c b fun w e => hb (Finset.mem_image.mpr ⟨w, Finset.mem_univ _, e⟩)

/-- What the second call finds. -/
abbrev W9 (c : Dev nD) : Valuation τ sig (Elt F) := StableHlo.after hostOps1 (W8 m c)

theorem W9_of (c : Dev nD) (r : Ref sig .tc) (h : r ∉ hostOps1_W) : W9 m c (Proc.devRef .tc r) = W8 m c (Proc.devRef .tc r) :=
  StableHlo.after_of_writes_sub hostOps1 _ hostOps1_writes h

abbrev E1 : (c : Dev nD) → (b : Ref sig .tc) → Buf (Elt F) ((c : Thread nD τ).loc b) := fun c b => W9 m c b

/-- After the second call: its arrays at what it leaves, every other buffer as entered. -/
def W10 (c : Dev nD) : Valuation τ sig (Elt F) :=
  Pipeline.withArrays spec1 c (W9 m c) fun w => (Linear.dat (E1 m) c).arrAt w cfg1.N

theorem W10_arr (c : Dev nD) (w : Fin cfg1.W) :
    W10 m c (Proc.devRef .tc (Pipeline.arrRef spec1 w)) = (Linear.dat (E1 m) c).arrAt w cfg1.N := by
  unfold W10; exact Pipeline.withArrays_arr spec1 launch1.win.arr_inj c _ _ w

theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

/-- A buffer that is no output of the second call keeps its contents across it. -/
theorem W10_of (c : Dev nD) (r : Ref sig .tc) (h : ∀ w : Fin cfg1.W, Pipeline.arrRef spec1 w = r → (cfg1.win w).isOut = false) :
    W10 m c (Proc.devRef .tc r) = W9 m c (Proc.devRef .tc r) := by
  by_cases hw : ∃ w : Fin cfg1.W, Pipeline.arrRef spec1 w = r
  · obtain ⟨w, rfl⟩ := hw
    exact (W10_arr m c w).trans (((Linear.dat (E1 m) c).arrAt_in w (h w rfl) _).trans (Linear.A_eq (E1 m) c w))
  · exact W10_of_ne m c r fun w e => hw ⟨w, e⟩

abbrev X1 : (c : Dev nD) → (b : Ref sig .tc) → Buf (Elt F) ((c : Thread nD τ).loc b) := fun c b => W10 m c b

theorem hF1 (c : Dev nD) (w : Fin cfg1.W) : (Linear.dat (E1 m) c).arrAt w cfg1.N = X1 m c (Pipeline.arrRef spec1 w) :=
  (W10_arr m c w).symm
theorem hrest1 (c : Dev nD) : ∀ b, b ∉ Finset.univ.image (Pipeline.arrRef spec1) → X1 m c b = E1 m c b :=
  fun b hb => W10_of_ne m c b fun w e => hb (Finset.mem_image.mpr ⟨w, Finset.mem_univ _, e⟩)

/-- At the return. -/
abbrev W11 (c : Dev nD) : Valuation τ sig (Elt F) := StableHlo.after hostOps2 (W10 m c)

theorem W11_of (c : Dev nD) (r : Ref sig .tc) (h : r ∉ hostOps2_W) : W11 m c (Proc.devRef .tc r) = W10 m c (Proc.devRef .tc r) :=
  StableHlo.after_of_writes_sub hostOps2 _ hostOps2_writes h

/-- The arguments end as launched. -/
theorem W11_args (c : Dev nD) (a : Ref sig .tc) (ha : a ∈ argRefs) : W11 m c (Proc.devRef .tc a) = m ((c : Thread nD τ).loc a) := by
  rw [W11_of m c a (ListAll.forall_mem_of_all_decide (p := fun a => a ∉ hostOps2_W) (l := argRefs) (by decide +kernel) a ha),
    W10_of m c a (ListAll.forall_mem_of_all_decide (p := fun a => ∀ w : Fin cfg1.W, Pipeline.arrRef spec1 w = a → (cfg1.win w).isOut = false) (l := argRefs) (by decide +kernel) a ha),
    W9_of m c a (ListAll.forall_mem_of_all_decide (p := fun a => a ∉ hostOps1_W) (l := argRefs) (by decide +kernel) a ha),
    W8_of m c a (ListAll.forall_mem_of_all_decide (p := fun a => ∀ w : Fin cfg0.W, Pipeline.arrRef spec0 w = a → (cfg0.win w).isOut = false) (l := argRefs) (by decide +kernel) a ha)]
  exact V7_args m c a ha

/-! ## The proof data family and the thread state -/

abbrev adm : (p : Fin 2) → (pcfgs (F := F) p).Adm := fun p => (cfgs p).toPCfg_adm

/-- Each call's proof data at its entry contents. -/
def pdats : (p : Fin 2) → (c : Dev nD) → Dat τ (Elt F) Unit ℕ (UR sig nD τ) ℕ (Pipeline.pin (pcfgs (F := F)) adm p) c
  | ⟨0, _⟩ => fun c => QuantiseW.dat (E0 m) c
  | ⟨1, _⟩ => fun c => Linear.dat (E1 m) c
abbrev 𝒱₀ : Variants := Variants.none
abbrev L : GSem nD τ sig → Finset Unit := fun _ => ∅
abbrev lv : GSem nD τ sig → Unit → ℕ := fun _ _ => 0
/-- What rides beside the buffers: the generator's register at some state, and nothing owed. -/
abbrev R (c : Dev nD) : sProp 𝕄 := iprop((∃ r, prngReg c r) ∗ ∃ W, owes (c : Thread nD τ) (0 : CellTallies nD τ sig Unit) W)
/-- A host stretch as a part of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

/-! ## The two calls as parts of the run -/

set_option backward.isDefEq.respectTransparency.types false in
/-- The call that quantises the weights, over every buffer of the program. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (QuantiseW.body_obligation (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) (QuantiseW.A_eq (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := QuantiseW.hin (E0 m) c
    unfold Pipeline.ΦA at h
    rw [show (pdats m 0 c).Φ 0 = (QuantiseW.dat (E0 m) c).Φ 0 from rfl]
    iintro ⟨Hp, -, Hr⟩
    iapply h
    isplitl [Hr]; · iexact Hr
    iexact Hp
  hout c := by
    have h := QuantiseW.hout (E0 m) c
    unfold Pipeline.ΦA at h
    rw [Pipeline.ownSems0_none, show (pdats m 0 c).Φ (Fin.last _) = (QuantiseW.dat (E0 m) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call that computes the products, over every buffer of the program. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Linear.body_obligation (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) (Linear.A_eq (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Linear.hin (E1 m) c
    unfold Pipeline.ΦA at h
    rw [show (pdats m 1 c).Φ 0 = (Linear.dat (E1 m) c).Φ 0 from rfl]
    iintro ⟨Hp, -, Hr⟩
    iapply h
    isplitl [Hr]; · iexact Hr
    iexact Hp
  hout c := by
    have h := Linear.hout (E1 m) c
    unfold Pipeline.ΦA at h
    rw [Pipeline.ownSems0_none, show (pdats m 1 c).Φ (Fin.last _) = (Linear.dat (E1 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .host (hseg hostOps1 hostOps1_sub hostOps1_fresh (W8 m)),
    .region (reg1 m),
    .host (hseg hostOps2 hostOps2_sub hostOps2_fresh (W10 m)) ]

theorem main_run (c : Dev nD) : main (F := F) c = Pipeline.Seg.run (segs m) := (main_chain c).trans (by chain_rfl)

set_option backward.isDefEq.respectTransparency.types false in
/-- Every execution ends, nothing faulting, with every buffer of the program at the last boundary's contents and every
    semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h hz => ⟨h, funext fun g => hz g (.inr (regions_no_unscoped g.2))⟩)

/-- The arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (mem_uc main_arg0 (by decide))).trans (W11_args m c main_arg0 (by decide)),
     (h.1 c _ (mem_uc main_arg1 (by decide))).trans (W11_args m c main_arg1 (by decide)),
     (h.1 c _ (mem_uc main_arg2 (by decide))).trans (W11_args m c main_arg2 (by decide)),
     (h.1 c _ (mem_uc main_arg3 (by decide))).trans (W11_args m c main_arg3 (by decide)),
     (h.1 c _ (mem_uc main_arg4 (by decide))).trans (W11_args m c main_arg4 (by decide)),
     (h.1 c _ (mem_uc main_arg5 (by decide))).trans (W11_args m c main_arg5 (by decide))⟩, h.2⟩) (run m ρ)

end Cert.Kernel.Whole

end
-- ==== Proof.KernelIdeal.QuantiseW.Runs.lean ====
/-
  What the runs of the call that quantises the weights share: the blocks its windows read, when each branch of its body is taken,
  and the staging buffers it is handed at a point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.QuantiseW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val :=
  (by decide +kernel : ∀ t : Fin grid0.N, cond0_1 (grid0.coords t) ↔ 1 ≤ t.val)

abbrev cond0_2 (i : grid0.Coords) : Prop := k0_cond3 i = 1#1
theorem hcond0_2 : ∀ t : Fin cfg0.N, cond0_2 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_2, k0_cond3, e0]
    word_cmp
   : ∀ t : Fin grid0.N, cond0_2 (grid0.coords t) ↔ t.val % 4 = 3)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleAt0_3_A : ∀ t : Fin cfg0.N, cond0_0 (grid0.coords t) → ¬cond0_1 (grid0.coords t) → ¬cond0_2 (grid0.coords t) → cfg0.idle 3 (grid0.coords t) = true := by decide +kernel
theorem noFlush0_3_A : ∀ t : Fin cfg0.N, cond0_0 (grid0.coords t) → ¬cond0_1 (grid0.coords t) → ¬cond0_2 (grid0.coords t) → (cfg0.win 3).flush t = false := by decide +kernel
theorem idleAt0_3_B : ∀ t : Fin cfg0.N, ¬cond0_0 (grid0.coords t) → cond0_1 (grid0.coords t) → ¬cond0_2 (grid0.coords t) → cfg0.idle 3 (grid0.coords t) = true := by decide +kernel
theorem noFlush0_3_B : ∀ t : Fin cfg0.N, ¬cond0_0 (grid0.coords t) → cond0_1 (grid0.coords t) → ¬cond0_2 (grid0.coords t) → (cfg0.win 3).flush t = false := by decide +kernel
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs: a subtype the run finds -/

abbrev VO0_2 : View sig .tc .vmem S416x1536 .fp8e4m3 := (Memref.whole cc0_stg2_0 : Memref sig .tc .vmem S416x1536 .fp8e4m3).view
abbrev VO0_3 : View sig .tc .vmem S1x1 .f32 := (Memref.whole cc0_stg3_0 : Memref sig .tc .vmem S1x1 .f32).view
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S416x1536 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev scM0_0 : Memref sig .tc .vmem S8x1536 .f32 := Memref.whole cc0_scratch0
abbrev VS0_0 : View sig .tc .vmem S8x1536 .f32 := scM0_0.view

/-- What the launch holds beside the carried scratch: every other scoped buffer, and the generator's register. -/
def Kept (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem PhiA0_eq (c : Dev nD) :
    (Pipeline.ΦA spec0 c : sProp 𝕄)
      = iprop(iprop((∃ d, owns (c : Thread nD τ) scM0_0 fullShare d)) ∗ Kept c) := by
  have assoc : ∀ P Q R : sProp 𝕄, iprop((P ∗ Q) ∗ R) = iprop(P ∗ Q ∗ R) := fun P Q R =>
    equiv_iff.mp ⟨Idealize.SL.BI.sep_assoc, Idealize.SL.BI.sep_assoc'⟩
  unfold Pipeline.ΦA Kept
  rw [Pipeline.scopedRest_split_of_list spec0 c [cc0_scratch0] (by decide) (by decide)]
  refine (assoc _ _ _).trans ?_
  simp only [scM0_0, owns_whole]; try rfl

end Cert.KernelIdeal.QuantiseW

end
-- ==== Proof.KernelIdeal.QuantiseW.RunA.lean ====
/-
  One run of the body of the call that quantises the weights at the first grid point: the stores it makes, found by the run.
-/
module

public import proofs.«01_k».proof.Proof.KernelIdeal.QuantiseW.Runs

@[expose] public section

set_option maxRecDepth 16384

noncomputable section

namespace Cert.KernelIdeal.QuantiseW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : cond0_0 i) (hc1 : ¬cond0_1 i) (hc2 : ¬cond0_2 i)
    (x0 : Vec F S1 .f32) (x1 : Vec F S416x1536 .f32) :
    Σ' (L2 : List (View.Piece (Elt F) S416x1536 .fp8e4m3)), Σ' (L3 : List (View.Piece (Elt F) S1x1 .f32)), { LS0 : List (View.Piece (Elt F) S8x1536 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_quantise_w i arg1 harg1 arg2 harg2 arg3 harg3 arg4 harg4 arg5 harg5) K } := by
  refine ⟨?_, [], ?_, fun xi3 E K => ?run⟩
  case run =>
    simp only [cc0_quantise_w_eq_skeleton]; unfold cc0_quantise_w_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.KernelIdeal.QuantiseW

end
-- ==== Proof.KernelIdeal.QuantiseW.RunB.lean ====
/-
  One run of the body of the call that quantises the weights at a middle grid point: the stores it makes, found by the run.
-/
module

public import proofs.«01_k».proof.Proof.KernelIdeal.QuantiseW.RunA

@[expose] public section

set_option maxRecDepth 16384

noncomputable section

namespace Cert.KernelIdeal.QuantiseW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : ¬cond0_2 i)
    (x0 : Vec F S1 .f32) (x1 : Vec F S416x1536 .f32) (xs0 : Vec F S8x1536 .f32) :
    Σ' (L2 : List (View.Piece (Elt F) S416x1536 .fp8e4m3)), Σ' (L3 : List (View.Piece (Elt F) S1x1 .f32)), { LS0 : List (View.Piece (Elt F) S8x1536 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_quantise_w i arg1 harg1 arg2 harg2 arg3 harg3 arg4 harg4 arg5 harg5) K } := by
  refine ⟨?_, [], ?_, fun xi3 E K => ?run⟩
  case run =>
    simp only [cc0_quantise_w_eq_skeleton]; unfold cc0_quantise_w_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.KernelIdeal.QuantiseW

end
-- ==== Proof.KernelIdeal.QuantiseW.RunC.lean ====
/-
  One run of the body of the call that quantises the weights at the last grid point: the stores it makes, found by the run.
-/
module

public import proofs.«01_k».proof.Proof.KernelIdeal.QuantiseW.RunB

@[expose] public section

set_option maxRecDepth 16384

noncomputable section

namespace Cert.KernelIdeal.QuantiseW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_C (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : cond0_2 i)
    (x0 : Vec F S1 .f32) (x1 : Vec F S416x1536 .f32) (xs0 : Vec F S8x1536 .f32) :
    Σ' (L2 : List (View.Piece (Elt F) S416x1536 .fp8e4m3)), Σ' (L3 : List (View.Piece (Elt F) S1x1 .f32)), { LS0 : List (View.Piece (Elt F) S8x1536 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_quantise_w i arg1 harg1 arg2 harg2 arg3 harg3 arg4 harg4 arg5 harg5) K } := by
  refine ⟨?_, ?_, ?_, fun E K => ?run⟩
  case run =>
    simp only [cc0_quantise_w_eq_skeleton]; unfold cc0_quantise_w_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.KernelIdeal.QuantiseW

end
-- ==== Proof.KernelIdeal.QuantiseW.Frame.lean ====
/-
  What every point of the call that quantises the weights leaves in its outputs and in its carried scratch, the invariant between
  points, and the obligation on the body at each point, for any contents of the arrays at entry.
-/
module

public import proofs.«01_k».proof.Proof.KernelIdeal.QuantiseW.RunC
public import Idealize.ShloMosaic.Lib.Claim

@[expose] public section

set_option maxRecDepth 16384

noncomputable section

namespace Cert.KernelIdeal.QuantiseW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : cond0_0 i) (hc1 : ¬cond0_1 i) (hc2 : ¬cond0_2 i)
    (x0 : Vec F S1 .f32) (x1 : Vec F S416x1536 .f32)

theorem cover0_A_2 (y : S416x1536.Idx) :
    ∃ pc ∈ (kernelRun0_A c i arg1 harg1 arg2 harg2 arg3 harg3 arg4 harg4 arg5 harg5 hc0 hc1 hc2 x0 x1).1, y ∈ pc.1.set :=
  View.cover_of_tiledL (kernelRun0_A c i arg1 harg1 arg2 harg2 arg3 harg3 arg4 harg4 arg5 harg5 hc0 hc1 hc2 x0 x1).1 S416x1536.size (by sl_kernel_rfl) y

def out0_A_2 : Vec F S416x1536 .fp8e4m3 :=
  VO0_2.read (Elt F) (VO0_2.writes (Elt F) VO0_2.junk (kernelRun0_A c i arg1 harg1 arg2 harg2 arg3 harg3 arg4 harg4 arg5 harg5 hc0 hc1 hc2 x0 x1).1)

def out0_A_3 : Vec F S1x1 .f32 :=
  VO0_3.read (Elt F) (VO0_3.writes (Elt F) VO0_3.junk (kernelRun0_A c i arg1 harg1 arg2 harg2 arg3 harg3 arg4 harg4 arg5 harg5 hc0 hc1 hc2 x0 x1).2.1)

theorem scover0_A_0 (y : S8x1536.Idx) :
    ∃ pc ∈ (kernelRun0_A c i arg1 harg1 arg2 harg2 arg3 harg3 arg4 harg4 arg5 harg5 hc0 hc1 hc2 x0 x1).2.2.1, y ∈ pc.1.set :=
  View.cover_of_tiledL (kernelRun0_A c i arg1 harg1 arg2 harg2 arg3 harg3 arg4 harg4 arg5 harg5 hc0 hc1 hc2 x0 x1).2.2.1 S8x1536.size (by sl_kernel_rfl) y

def sout0_A_0 : Vec F S8x1536 .f32 :=
  VS0_0.read (Elt F) (VS0_0.writes (Elt F) VS0_0.junk (kernelRun0_A c i arg1 harg1 arg2 harg2 arg3 harg3 arg4 harg4 arg5 harg5 hc0 hc1 hc2 x0 x1).2.2.1)

/-- Everything the body leaves in this case: the output blocks, then the carried scratch. -/
def leaves_A : Vec F S416x1536 .fp8e4m3 × Vec F S1x1 .f32 × Vec F S8x1536 .f32 :=
  (out0_A_2 c i arg1 harg1 arg2 harg2 arg3 harg3 arg4 harg4 arg5 harg5 hc0 hc1 hc2 x0 x1, out0_A_3 c i arg1 harg1 arg2 harg2 arg3 harg3 arg4 harg4 arg5 harg5 hc0 hc1 hc2 x0 x1, sout0_A_0 c i arg1 harg1 arg2 harg2 arg3 harg3 arg4 harg4 arg5 harg5 hc0 hc1 hc2 x0 x1)

end

section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : ¬cond0_2 i)
    (x0 : Vec F S1 .f32) (x1 : Vec F S416x1536 .f32) (xs0 : Vec F S8x1536 .f32)

theorem cover0_B_2 (y : S416x1536.Idx) :
    ∃ pc ∈ (kernelRun0_B c i arg1 harg1 arg2 harg2 arg3 harg3 arg4 harg4 arg5 harg5 hc0 hc1 hc2 x0 x1 xs0).1, y ∈ pc.1.set :=
  View.cover_of_tiledL (kernelRun0_B c i arg1 harg1 arg2 harg2 arg3 harg3 arg4 harg4 arg5 harg5 hc0 hc1 hc2 x0 x1 xs0).1 S416x1536.size (by sl_kernel_rfl) y

def out0_B_2 : Vec F S416x1536 .fp8e4m3 :=
  VO0_2.read (Elt F) (VO0_2.writes (Elt F) VO0_2.junk (kernelRun0_B c i arg1 harg1 arg2 harg2 arg3 harg3 arg4 harg4 arg5 harg5 hc0 hc1 hc2 x0 x1 xs0).1)

def out0_B_3 : Vec F S1x1 .f32 :=
  VO0_3.read (Elt F) (VO0_3.writes (Elt F) VO0_3.junk (kernelRun0_B c i arg1 harg1 arg2 harg2 arg3 harg3 arg4 harg4 arg5 harg5 hc0 hc1 hc2 x0 x1 xs0).2.1)

theorem scover0_B_0 (y : S8x1536.Idx) :
    ∃ pc ∈ (kernelRun0_B c i arg1 harg1 arg2 harg2 arg3 harg3 arg4 harg4 arg5 harg5 hc0 hc1 hc2 x0 x1 xs0).2.2.1, y ∈ pc.1.set :=
  View.cover_of_tiledL (kernelRun0_B c i arg1 harg1 arg2 harg2 arg3 harg3 arg4 harg4 arg5 harg5 hc0 hc1 hc2 x0 x1 xs0).2.2.1 S8x1536.size (by sl_kernel_rfl) y

def sout0_B_0 : Vec F S8x1536 .f32 :=
  VS0_0.read (Elt F) (VS0_0.writes (Elt F) VS0_0.junk (kernelRun0_B c i arg1 harg1 arg2 harg2 arg3 harg3 arg4 harg4 arg5 harg5 hc0 hc1 hc2 x0 x1 xs0).2.2.1)

/-- Everything the body leaves in this case: the output blocks, then the carried scratch. -/
def leaves_B : Vec F S416x1536 .fp8e4m3 × Vec F S1x1 .f32 × Vec F S8x1536 .f32 :=
  (out0_B_2 c i arg1 harg1 arg2 harg2 arg3 harg3 arg4 harg4 arg5 harg5 hc0 hc1 hc2 x0 x1 xs0, out0_B_3 c i arg1 harg1 arg2 harg2 arg3 harg3 arg4 harg4 arg5 harg5 hc0 hc1 hc2 x0 x1 xs0, sout0_B_0 c i arg1 harg1 arg2 harg2 arg3 harg3 arg4 harg4 arg5 harg5 hc0 hc1 hc2 x0 x1 xs0)

end

section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : cond0_2 i)
    (x0 : Vec F S1 .f32) (x1 : Vec F S416x1536 .f32) (xs0 : Vec F S8x1536 .f32)

theorem cover0_C_2 (y : S416x1536.Idx) :
    ∃ pc ∈ (kernelRun0_C c i arg1 harg1 arg2 harg2 arg3 harg3 arg4 harg4 arg5 harg5 hc0 hc1 hc2 x0 x1 xs0).1, y ∈ pc.1.set :=
  View.cover_of_tiledL (kernelRun0_C c i arg1 harg1 arg2 harg2 arg3 harg3 arg4 harg4 arg5 harg5 hc0 hc1 hc2 x0 x1 xs0).1 S416x1536.size (by sl_kernel_rfl) y

def out0_C_2 : Vec F S416x1536 .fp8e4m3 :=
  VO0_2.read (Elt F) (VO0_2.writes (Elt F) VO0_2.junk (kernelRun0_C c i arg1 harg1 arg2 harg2 arg3 harg3 arg4 harg4 arg5 harg5 hc0 hc1 hc2 x0 x1 xs0).1)

theorem cover0_C_3 (y : S1x1.Idx) :
    ∃ pc ∈ (kernelRun0_C c i arg1 harg1 arg2 harg2 arg3 harg3 arg4 harg4 arg5 harg5 hc0 hc1 hc2 x0 x1 xs0).2.1, y ∈ pc.1.set :=
  View.cover_of_tiledL (kernelRun0_C c i arg1 harg1 arg2 harg2 arg3 harg3 arg4 harg4 arg5 harg5 hc0 hc1 hc2 x0 x1 xs0).2.1 S1x1.size (by sl_kernel_rfl) y

def out0_C_3 : Vec F S1x1 .f32 :=
  VO0_3.read (Elt F) (VO0_3.writes (Elt F) VO0_3.junk (kernelRun0_C c i arg1 harg1 arg2 harg2 arg3 harg3 arg4 harg4 arg5 harg5 hc0 hc1 hc2 x0 x1 xs0).2.1)

theorem scover0_C_0 (y : S8x1536.Idx) :
    ∃ pc ∈ (kernelRun0_C c i arg1 harg1 arg2 harg2 arg3 harg3 arg4 harg4 arg5 harg5 hc0 hc1 hc2 x0 x1 xs0).2.2.1, y ∈ pc.1.set :=
  View.cover_of_tiledL (kernelRun0_C c i arg1 harg1 arg2 harg2 arg3 harg3 arg4 harg4 arg5 harg5 hc0 hc1 hc2 x0 x1 xs0).2.2.1 S8x1536.size (by sl_kernel_rfl) y

def sout0_C_0 : Vec F S8x1536 .f32 :=
  VS0_0.read (Elt F) (VS0_0.writes (Elt F) VS0_0.junk (kernelRun0_C c i arg1 harg1 arg2 harg2 arg3 harg3 arg4 harg4 arg5 harg5 hc0 hc1 hc2 x0 x1 xs0).2.2.1)

/-- Everything the body leaves in this case: the output blocks, then the carried scratch. -/
def leaves_C : Vec F S416x1536 .fp8e4m3 × Vec F S1x1 .f32 × Vec F S8x1536 .f32 :=
  (out0_C_2 c i arg1 harg1 arg2 harg2 arg3 harg3 arg4 harg4 arg5 harg5 hc0 hc1 hc2 x0 x1 xs0, out0_C_3 c i arg1 harg1 arg2 harg2 arg3 harg3 arg4 harg4 arg5 harg5 hc0 hc1 hc2 x0 x1 xs0, sout0_C_0 c i arg1 harg1 arg2 harg2 arg3 harg3 arg4 harg4 arg5 harg5 hc0 hc1 hc2 x0 x1 xs0)

end

/-! ## What the outputs hold after each point -/

def outsAt0 (c : Dev nD) : (n : ℕ) → n < cfg0.N → Vec F S416x1536 .fp8e4m3 × Vec F S1x1 .f32 × Vec F S8x1536 .f32
  | 0, hn => leaves_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩)
  | n + 1, hn =>
    if h0 : (n + 1) % 4 = 0 then
      if h1 : 1 ≤ (n + 1) then
        False.elim (by have hN : n + 1 < 4 := lt_of_lt_of_eq hn (show cfg0.N = 4 from N_0); omega)
      else
        if h2 : (n + 1) % 4 = 3 then
          False.elim (by have hN : n + 1 < 4 := lt_of_lt_of_eq hn (show cfg0.N = 4 from N_0); omega)
        else
          leaves_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩)
    else
      if h1 : 1 ≤ (n + 1) then
        if h2 : (n + 1) % 4 = 3 then
          leaves_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (outsAt0 c n (Nat.lt_of_succ_lt hn)).2.2
        else
          leaves_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (outsAt0 c n (Nat.lt_of_succ_lt hn)).2.2
      else
        False.elim (by have hN : n + 1 < 4 := lt_of_lt_of_eq hn (show cfg0.N = 4 from N_0); omega)

theorem outsAt0_A (c : Dev nD) (t : Fin cfg0.N) (h0 : t.val % 4 = 0) (h1 : ¬1 ≤ t.val) (h2 : ¬t.val % 4 = 3) :
    outsAt0 V c t.val t.isLt = leaves_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk V c 0 t) (iblk V c 1 t) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 4 = 0) (h1 : 1 ≤ t.val) (h2 : ¬t.val % 4 = 3) :
    outsAt0 V c t.val t.isLt = leaves_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk V c 0 t) (iblk V c 1 t) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 4 = 0) (h1 : 1 ≤ t.val) (h2 : t.val % 4 = 3) :
    outsAt0 V c t.val t.isLt = leaves_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk V c 0 t) (iblk V c 1 t) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_pos h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ Kept c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ Kept c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ Kept c) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t.val t.isLt).1 := by dsimp only [dat]
theorem after0_3 (c : Dev nD) (t : Fin cfg0.N) : (dat V c).after 3 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg0.N = 4 from N_0)
  by_cases h0 : t.val % 4 = 0
  · by_cases h1 : 1 ≤ t.val
    · exfalso; omega
    · by_cases h2 : t.val % 4 = 3
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [Dat.leavesExact_idle (dat V c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold leaves_A; dsimp only; unfold out0_A_2 sout0_A_0; (try dsimp only)
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk V c 0 t) (iblk V c 1 t)).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_A_2 c _ _ _ _ _ _ _ _ _ _ _ _ _ _ _ _)
          iexists _; iexact H3
        · exfalso; have hN : t.val < 4 := lt_of_lt_of_eq t.isLt (show cfg0.N = 4 from N_0); omega
  · by_cases h1 : 1 ≤ t.val
    · by_cases h2 : t.val % 4 = 3
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3_C t (fun h => h0 ((hcond0_0 t).mp h)) ((hcond0_1 t).mpr h1) ((hcond0_2 t).mpr h2)], after0_3]
        by_cases hz : t.val = 0
        · exfalso; have hN : t.val < 4 := lt_of_lt_of_eq t.isLt (show cfg0.N = 4 from N_0); omega
        · rw [PhiS_castSucc V c t, PhiS_pos V c _ _ hz]
          rw [outsAt0_C V c t h0 h1 h2]
          unfold leaves_C; dsimp only; unfold out0_C_2 out0_C_3 sout0_C_0; (try dsimp only)
          iintro ⟨⟨HS0, Hg⟩, Ho, ⟨%d0, H0⟩, ⟨%d1, H1⟩, ⟨%d2, H2⟩, ⟨%d3, H3⟩⟩
          iapply ((kernelRun0_C c (grid0.coords t) _ _ _ _ _ _ _ _ _ _ (fun h => h0 ((hcond0_0 t).mp h)) ((hcond0_1 t).mpr h1) ((hcond0_2 t).mpr h2) (iblk V c 0 t) (iblk V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_C_2 c _ _ _ _ _ _ _ _ _ _ _ _ _ _ _ _ _)
          unfold owns; iexists _; isplitr
          swap; · iexact H3
          ipureintro; exact View.read_writes_of_cover _ _ _ _ _ (cover0_C_3 c _ _ _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [Dat.leavesExact_idle (dat V c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        by_cases hz : t.val = 0
        · exfalso; have hN : t.val < 4 := lt_of_lt_of_eq t.isLt (show cfg0.N = 4 from N_0); omega
        · rw [PhiS_castSucc V c t, PhiS_pos V c _ _ hz]
          rw [outsAt0_B V c t h0 h1 h2]
          unfold leaves_B; dsimp only; unfold out0_B_2 sout0_B_0; (try dsimp only)
          iintro ⟨⟨HS0, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) (fun h => h2 ((hcond0_2 t).mp h)) (iblk V c 0 t) (iblk V c 1 t) _).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_B_2 c _ _ _ _ _ _ _ _ _ _ _ _ _ _ _ _ _)
          iexists _; iexact H3
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dat V c).Φ (Fin.last cfg0.N) ⊢ Pipeline.ΦA spec0 c :=
  Phi_out V c _ (by rw [Fin.val_last]; have : cfg0.N = 4 := N_0; omega)

end Cert.KernelIdeal.QuantiseW

end
-- ==== Proof.KernelIdeal.Linear.Runs.lean ====
/-
  What the runs of the call that computes the products share: the blocks its windows read, when each branch of its body is taken,
  and the staging buffers it is handed at a point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 18 = 0 :=
  (fun t => by
    have ht : t.val < 18 := Nat.lt_of_lt_of_eq t.isLt N_1
    have e0 : (grid1.coords t 0).val = t.val / 1 % 18 := Pipeline.Grid.coords_val t 0 (by decide) rfl
    simp only [cond1_0, e0]
    word_cmp
   : ∀ t : Fin grid1.N, cond1_0 (grid1.coords t) ↔ t.val % 18 = 0)

abbrev cond1_1 (i : grid1.Coords) : Prop := k1_cond2 i = 1#1
theorem hcond1_1 : ∀ t : Fin cfg1.N, cond1_1 (grid1.coords t) ↔ t.val % 18 = 17 :=
  (fun t => by
    have ht : t.val < 18 := Nat.lt_of_lt_of_eq t.isLt N_1
    have e0 : (grid1.coords t 0).val = t.val / 1 % 18 := Pipeline.Grid.coords_val t 0 (by decide) rfl
    simp only [cond1_1, k1_cond2, e0]
    word_cmp
   : ∀ t : Fin grid1.N, cond1_1 (grid1.coords t) ↔ t.val % 18 = 17)

/-! ## Where the windows are idle (the printed configuration's table `Cfg.idle`) -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem idleAt1_9_A : ∀ t : Fin cfg1.N, cond1_0 (grid1.coords t) → ¬cond1_1 (grid1.coords t) → cfg1.idle 9 (grid1.coords t) = true := by decide +kernel
theorem noFlush1_9_A : ∀ t : Fin cfg1.N, cond1_0 (grid1.coords t) → ¬cond1_1 (grid1.coords t) → (cfg1.win 9).flush t = false := by decide +kernel
theorem idleAt1_9_B : ∀ t : Fin cfg1.N, ¬cond1_0 (grid1.coords t) → ¬cond1_1 (grid1.coords t) → cfg1.idle 9 (grid1.coords t) = true := by decide +kernel
theorem noFlush1_9_B : ∀ t : Fin cfg1.N, ¬cond1_0 (grid1.coords t) → ¬cond1_1 (grid1.coords t) → (cfg1.win 9).flush t = false := by decide +kernel
theorem liveAt1_9_C : ∀ t : Fin cfg1.N, ¬cond1_0 (grid1.coords t) → cond1_1 (grid1.coords t) → cfg1.idle 9 (grid1.coords t) = false := by decide +kernel
theorem idleAt1_10_A : ∀ t : Fin cfg1.N, cond1_0 (grid1.coords t) → ¬cond1_1 (grid1.coords t) → cfg1.idle 10 (grid1.coords t) = true := by decide +kernel
theorem noFlush1_10_A : ∀ t : Fin cfg1.N, cond1_0 (grid1.coords t) → ¬cond1_1 (grid1.coords t) → (cfg1.win 10).flush t = false := by decide +kernel
theorem idleAt1_10_B : ∀ t : Fin cfg1.N, ¬cond1_0 (grid1.coords t) → ¬cond1_1 (grid1.coords t) → cfg1.idle 10 (grid1.coords t) = true := by decide +kernel
theorem noFlush1_10_B : ∀ t : Fin cfg1.N, ¬cond1_0 (grid1.coords t) → ¬cond1_1 (grid1.coords t) → (cfg1.win 10).flush t = false := by decide +kernel
theorem liveAt1_10_C : ∀ t : Fin cfg1.N, ¬cond1_0 (grid1.coords t) → cond1_1 (grid1.coords t) → cfg1.idle 10 (grid1.coords t) = false := by decide +kernel

/-! ## The kernel body on any staging memrefs: a subtype the run finds -/

abbrev VO1_4 : View sig .tc .vmem S128x8x1536 .bf16 := (Memref.whole cc1_stg4_0 : Memref sig .tc .vmem S128x8x1536 .bf16).view
abbrev VO1_5 : View sig .tc .vmem S128x8x1664 .bf16 := (Memref.whole cc1_stg5_0 : Memref sig .tc .vmem S128x8x1664 .bf16).view
abbrev VO1_6 : View sig .tc .vmem S1664x1536 .f32 := (Memref.whole cc1_stg6_0 : Memref sig .tc .vmem S1664x1536 .f32).view
abbrev VO1_7 : View sig .tc .vmem S1x1024x1664 .fp8e4m3 := (Memref.whole cc1_stg7_0 : Memref sig .tc .vmem S1x1024x1664 .fp8e4m3).view
abbrev VO1_8 : View sig .tc .vmem S1x1024x1536 .fp8e5m2 := (Memref.whole cc1_stg8_0 : Memref sig .tc .vmem S1x1024x1536 .fp8e5m2).view
abbrev VO1_9 : View sig .tc .vmem S1x1 .f32 := (Memref.whole cc1_stg9_0 : Memref sig .tc .vmem S1x1 .f32).view
abbrev VO1_10 : View sig .tc .vmem S1x1 .f32 := (Memref.whole cc1_stg10_0 : Memref sig .tc .vmem S1x1 .f32).view
abbrev ms1_0 (t : Fin cfg1.N) : Memref sig .tc .smem S5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1664 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1536 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1664x1536 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x8x1536 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x8x1664 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1664x1536 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x1664 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1024x1536 .fp8e5m2 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev scM1_0 : Memref sig .tc .vmem S8x1664 .bf16 := Memref.whole cc1_scratch0
abbrev scM1_1 : Memref sig .tc .vmem S8x1536 .bf16 := Memref.whole cc1_scratch1
abbrev VS1_0 : View sig .tc .vmem S8x1664 .bf16 := scM1_0.view
abbrev VS1_1 : View sig .tc .vmem S8x1536 .bf16 := scM1_1.view

/-- What the launch holds beside the carried scratch: every other scoped buffer, and the generator's register. -/
def Kept (c : Dev nD) : sProp 𝕄 :=
  iprop(Pipeline.scopedRestBut (Ix := Unit) (Name := ℕ) (U := UR sig nD τ) (Lvl := ℕ) (Val := Elt F) spec1 c [cc1_scratch0, cc1_scratch1] ∗ ∃ r, prngReg c r)

theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ Kept c) := by
  have assoc : ∀ P Q R : sProp 𝕄, iprop((P ∗ Q) ∗ R) = iprop(P ∗ Q ∗ R) := fun P Q R =>
    equiv_iff.mp ⟨Idealize.SL.BI.sep_assoc, Idealize.SL.BI.sep_assoc'⟩
  unfold Pipeline.ΦA Kept
  rw [Pipeline.scopedRest_split_of_list spec1 c [cc1_scratch0, cc1_scratch1] (by decide) (by decide)]
  refine (assoc _ _ _).trans ?_
  simp only [scM1_0, scM1_1, owns_whole]; try rfl

end Cert.KernelIdeal.Linear

end
-- ==== Proof.KernelIdeal.Linear.RunA.lean ====
/-
  One run of the body of the call that computes the products at the first grid point: the stores it makes, found by the run.
-/
module

public import proofs.«01_k».proof.Proof.KernelIdeal.Linear.Runs

@[expose] public section

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : cond1_0 i) (hc1 : ¬cond1_1 i)
    (x0 : Vec F S5 .f32) (x1 : Vec F S1x1024x1664 .bf16) (x2 : Vec F S1x1024x1536 .bf16) (x3 : Vec F S1664x1536 .fp8e4m3) :
    Σ' (L4 : List (View.Piece (Elt F) S128x8x1536 .bf16)), Σ' (L5 : List (View.Piece (Elt F) S128x8x1664 .bf16)), Σ' (L6 : List (View.Piece (Elt F) S1664x1536 .f32)), Σ' (L7 : List (View.Piece (Elt F) S1x1024x1664 .fp8e4m3)), Σ' (L8 : List (View.Piece (Elt F) S1x1024x1536 .fp8e5m2)), Σ' (L9 : List (View.Piece (Elt F) S1x1 .f32)), Σ' (L10 : List (View.Piece (Elt F) S1x1 .f32)), Σ' (LS0 : List (View.Piece (Elt F) S8x1664 .bf16)), { LS1 : List (View.Piece (Elt F) S8x1536 .bf16) //
      ∀ (xi9 : Vec F S1x1 .f32) (xi10 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_fp8_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, [], [], ?_, ?_, fun xi9 xi10 E K => ?run⟩
  case run =>
    simp only [cc1_fp8_linear_eq_skeleton]; unfold cc1_fp8_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Linear

end
-- ==== Proof.KernelIdeal.Linear.RunB.lean ====
/-
  One run of the body of the call that computes the products at a middle grid point: the stores it makes, found by the run.
-/
module

public import proofs.«01_k».proof.Proof.KernelIdeal.Linear.RunA

@[expose] public section

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : ¬cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16) :
    Σ' (L4 : List (View.Piece (Elt F) S128x8x1536 .bf16)), Σ' (L5 : List (View.Piece (Elt F) S128x8x1664 .bf16)), Σ' (L6 : List (View.Piece (Elt F) S1664x1536 .f32)), Σ' (L7 : List (View.Piece (Elt F) S1x1024x1664 .fp8e4m3)), Σ' (L8 : List (View.Piece (Elt F) S1x1024x1536 .fp8e5m2)), Σ' (L9 : List (View.Piece (Elt F) S1x1 .f32)), Σ' (L10 : List (View.Piece (Elt F) S1x1 .f32)), Σ' (LS0 : List (View.Piece (Elt F) S8x1664 .bf16)), { LS1 : List (View.Piece (Elt F) S8x1536 .bf16) //
      ∀ (xi9 : Vec F S1x1 .f32) (xi10 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_fp8_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, [], [], ?_, ?_, fun xi9 xi10 E K => ?run⟩
  case run =>
    simp only [cc1_fp8_linear_eq_skeleton]; unfold cc1_fp8_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg10.eq_unread hf9; obtain rfl := harg11.eq_unread hf10; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Linear

end
-- ==== Proof.KernelIdeal.Linear.RunC.lean ====
/-
  One run of the body of the call that computes the products at the last grid point: the stores it makes, found by the run.
-/
module

public import proofs.«01_k».proof.Proof.KernelIdeal.Linear.RunB

@[expose] public section

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_C (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16) :
    Σ' (L4 : List (View.Piece (Elt F) S128x8x1536 .bf16)), Σ' (L5 : List (View.Piece (Elt F) S128x8x1664 .bf16)), Σ' (L6 : List (View.Piece (Elt F) S1664x1536 .f32)), Σ' (L7 : List (View.Piece (Elt F) S1x1024x1664 .fp8e4m3)), Σ' (L8 : List (View.Piece (Elt F) S1x1024x1536 .fp8e5m2)), Σ' (L9 : List (View.Piece (Elt F) S1x1 .f32)), Σ' (L10 : List (View.Piece (Elt F) S1x1 .f32)), Σ' (LS0 : List (View.Piece (Elt F) S8x1664 .bf16)), { LS1 : List (View.Piece (Elt F) S8x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1_fp8_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, fun E K => ?run⟩
  case run =>
    simp only [cc1_fp8_linear_eq_skeleton]; unfold cc1_fp8_linear_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    iexists _; iexact HS1

end Cert.KernelIdeal.Linear

end
-- ==== Proof.KernelIdeal.Linear.Frame.lean ====
/-
  What every point of the call that computes the products leaves in its outputs and in its carried scratch, the invariant between
  points, and the obligation on the body at each point, for any contents of the arrays at entry.
-/
module

public import proofs.«01_k».proof.Proof.KernelIdeal.Linear.RunC
public import Idealize.ShloMosaic.Lib.Claim

@[expose] public section

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : cond1_0 i) (hc1 : ¬cond1_1 i)
    (x0 : Vec F S5 .f32) (x1 : Vec F S1x1024x1664 .bf16) (x2 : Vec F S1x1024x1536 .bf16) (x3 : Vec F S1664x1536 .fp8e4m3)

theorem cover1_A_4 (y : S128x8x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1 S128x8x1536.size (by sl_kernel_rfl) y

def out1_A_4 : Vec F S128x8x1536 .bf16 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1)

theorem cover1_A_5 (y : S128x8x1664.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1 S128x8x1664.size (by sl_kernel_rfl) y

def out1_A_5 : Vec F S128x8x1664 .bf16 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1)

theorem cover1_A_6 (y : S1664x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1 S1664x1536.size (by sl_kernel_rfl) y

def out1_A_6 : Vec F S1664x1536 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1)

theorem cover1_A_7 (y : S1x1024x1664.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1 S1x1024x1664.size (by sl_kernel_rfl) y

def out1_A_7 : Vec F S1x1024x1664 .fp8e4m3 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1)

theorem cover1_A_8 (y : S1x1024x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1 S1x1024x1536.size (by sl_kernel_rfl) y

def out1_A_8 : Vec F S1x1024x1536 .fp8e5m2 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1)

def out1_A_9 : Vec F S1x1 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1)

def out1_A_10 : Vec F S1x1 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.1)

theorem scover1_A_0 (y : S8x1664.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1 S8x1664.size (by sl_kernel_rfl) y

def sout1_A_0 : Vec F S8x1664 .bf16 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1)

theorem scover1_A_1 (y : S8x1536.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1 S8x1536.size (by sl_kernel_rfl) y

def sout1_A_1 : Vec F S8x1536 .bf16 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1)

/-- Everything the body leaves in this case: the output blocks, then the carried scratch. -/
def leaves_A : Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16 :=
  (out1_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, out1_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, sout1_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3, sout1_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

end

section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : ¬cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16)

theorem cover1_B_4 (y : S128x8x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1 S128x8x1536.size (by sl_kernel_rfl) y

def out1_B_4 : Vec F S128x8x1536 .bf16 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1)

theorem cover1_B_5 (y : S128x8x1664.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1 S128x8x1664.size (by sl_kernel_rfl) y

def out1_B_5 : Vec F S128x8x1664 .bf16 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1)

theorem cover1_B_6 (y : S1664x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1 S1664x1536.size (by sl_kernel_rfl) y

def out1_B_6 : Vec F S1664x1536 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1)

theorem cover1_B_7 (y : S1x1024x1664.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1 S1x1024x1664.size (by sl_kernel_rfl) y

def out1_B_7 : Vec F S1x1024x1664 .fp8e4m3 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1)

theorem cover1_B_8 (y : S1x1024x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1 S1x1024x1536.size (by sl_kernel_rfl) y

def out1_B_8 : Vec F S1x1024x1536 .fp8e5m2 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1)

def out1_B_9 : Vec F S1x1 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1)

def out1_B_10 : Vec F S1x1 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1)

theorem scover1_B_0 (y : S8x1664.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1 S8x1664.size (by sl_kernel_rfl) y

def sout1_B_0 : Vec F S8x1664 .bf16 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1)

theorem scover1_B_1 (y : S8x1536.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1 S8x1536.size (by sl_kernel_rfl) y

def sout1_B_1 : Vec F S8x1536 .bf16 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1)

/-- Everything the body leaves in this case: the output blocks, then the carried scratch. -/
def leaves_B : Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16 :=
  (out1_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1)

end

section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : cond1_1 i)
    (x0 : Vec F S5 .f32) (x1 : Vec F S1x1024x1664 .bf16) (x2 : Vec F S1x1024x1536 .bf16) (x3 : Vec F S1664x1536 .fp8e4m3) (xo6 : Vec F S1664x1536 .f32) (xs0 : Vec F S8x1664 .bf16) (xs1 : Vec F S8x1536 .bf16)

theorem cover1_C_4 (y : S128x8x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1 S128x8x1536.size (by sl_kernel_rfl) y

def out1_C_4 : Vec F S128x8x1536 .bf16 :=
  VO1_4.read (Elt F) (VO1_4.writes (Elt F) VO1_4.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).1)

theorem cover1_C_5 (y : S128x8x1664.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1 S128x8x1664.size (by sl_kernel_rfl) y

def out1_C_5 : Vec F S128x8x1664 .bf16 :=
  VO1_5.read (Elt F) (VO1_5.writes (Elt F) VO1_5.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.1)

theorem cover1_C_6 (y : S1664x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1 S1664x1536.size (by sl_kernel_rfl) y

def out1_C_6 : Vec F S1664x1536 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.1)

theorem cover1_C_7 (y : S1x1024x1664.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1 S1x1024x1664.size (by sl_kernel_rfl) y

def out1_C_7 : Vec F S1x1024x1664 .fp8e4m3 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.1)

theorem cover1_C_8 (y : S1x1024x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1 S1x1024x1536.size (by sl_kernel_rfl) y

def out1_C_8 : Vec F S1x1024x1536 .fp8e5m2 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.1)

theorem cover1_C_9 (y : S1x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1 S1x1.size (by sl_kernel_rfl) y

def out1_C_9 : Vec F S1x1 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.1)

theorem cover1_C_10 (y : S1x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1 S1x1.size (by sl_kernel_rfl) y

def out1_C_10 : Vec F S1x1 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.1)

theorem scover1_C_0 (y : S8x1664.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1 S8x1664.size (by sl_kernel_rfl) y

def sout1_C_0 : Vec F S8x1664 .bf16 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.1)

theorem scover1_C_1 (y : S8x1536.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1 S8x1536.size (by sl_kernel_rfl) y

def sout1_C_1 : Vec F S8x1536 .bf16 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1).2.2.2.2.2.2.2.2.1)

/-- Everything the body leaves in this case: the output blocks, then the carried scratch. -/
def leaves_C : Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16 :=
  (out1_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, out1_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1, sout1_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xo6 xs0 xs1)

end

/-! ## What the outputs hold after each point -/

def outsAt1 (c : Dev nD) : (n : ℕ) → n < cfg1.N → Vec F S128x8x1536 .bf16 × Vec F S128x8x1664 .bf16 × Vec F S1664x1536 .f32 × Vec F S1x1024x1664 .fp8e4m3 × Vec F S1x1024x1536 .fp8e5m2 × Vec F S1x1 .f32 × Vec F S1x1 .f32 × Vec F S8x1664 .bf16 × Vec F S8x1536 .bf16
  | 0, hn => leaves_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩)
  | n + 1, hn =>
    if h0 : (n + 1) % 18 = 0 then
      if h1 : (n + 1) % 18 = 17 then
        False.elim (by have hN : n + 1 < 18 := lt_of_lt_of_eq hn (show cfg1.N = 18 from N_1); omega)
      else
        leaves_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩)
    else
      if h1 : (n + 1) % 18 = 17 then
        leaves_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.1 (outsAt1 c n (Nat.lt_of_succ_lt hn)).2.2.2.2.2.2.2.1 (outsAt1 c n (Nat.lt_of_succ_lt hn)).2.2.2.2.2.2.2.2
      else
        leaves_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (outsAt1 c n (Nat.lt_of_succ_lt hn)).2.2.1 (outsAt1 c n (Nat.lt_of_succ_lt hn)).2.2.2.2.2.2.2.1 (outsAt1 c n (Nat.lt_of_succ_lt hn)).2.2.2.2.2.2.2.2

theorem outsAt1_A (c : Dev nD) (t : Fin cfg1.N) (h0 : t.val % 18 = 0) (h1 : ¬t.val % 18 = 17) :
    outsAt1 V c t.val t.isLt = leaves_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr h0) (fun h => h1 ((hcond1_1 t).mp h)) (iblk V c 0 t) (iblk V c 1 t) (iblk V c 2 t) (iblk V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 18 = 0) (h1 : ¬t.val % 18 = 17) :
    outsAt1 V c t.val t.isLt = leaves_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) (fun h => h1 ((hcond1_1 t).mp h)) (iblk V c 0 t) (iblk V c 1 t) (iblk V c 2 t) (iblk V c 3 t) (outsAt1 V c (t.val - 1) (Nat.lt_of_le_of_lt (Nat.sub_le _ _) t.isLt)).2.2.1 (outsAt1 V c (t.val - 1) (Nat.lt_of_le_of_lt (Nat.sub_le _ _) t.isLt)).2.2.2.2.2.2.2.1 (outsAt1 V c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 18 = 0) (h1 : t.val % 18 = 17) :
    outsAt1 V c t.val t.isLt = leaves_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => h0 ((hcond1_0 t).mp h)) ((hcond1_1 t).mpr h1) (iblk V c 0 t) (iblk V c 1 t) (iblk V c 2 t) (iblk V c 3 t) (outsAt1 V c (t.val - 1) (Nat.lt_of_le_of_lt (Nat.sub_le _ _) t.isLt)).2.2.1 (outsAt1 V c (t.val - 1) (Nat.lt_of_le_of_lt (Nat.sub_le _ _) t.isLt)).2.2.2.2.2.2.2.1 (outsAt1 V c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2.2.2.2.1) ∗ owns (c : Thread nD τ) scM1_1 fullShare ((outsAt1 V c n hn).2.2.2.2.2.2.2.2)) ∗ Kept c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2.2.2.2.2.2.1) ∗ owns (c : Thread nD τ) scM1_1 fullShare ((outsAt1 V c n hn).2.2.2.2.2.2.2.2)) ∗ Kept c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2.2.2.2.1) ∗ owns (c : Thread nD τ) scM1_1 fullShare ((outsAt1 V c (n - 1) (by omega)).2.2.2.2.2.2.2.2)) ∗ Kept c) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2.1
    | ⟨10, _⟩ => (outsAt1 V c t.val t.isLt).2.2.2.2.2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = (outsAt1 V c t.val t.isLt).1 := by dsimp only [dat]
theorem after1_5 (c : Dev nD) (t : Fin cfg1.N) : (dat V c).after 5 t = (outsAt1 V c t.val t.isLt).2.1 := by dsimp only [dat]
theorem after1_6 (c : Dev nD) (t : Fin cfg1.N) : (dat V c).after 6 t = (outsAt1 V c t.val t.isLt).2.2.1 := by dsimp only [dat]
theorem after1_7 (c : Dev nD) (t : Fin cfg1.N) : (dat V c).after 7 t = (outsAt1 V c t.val t.isLt).2.2.2.1 := by dsimp only [dat]
theorem after1_8 (c : Dev nD) (t : Fin cfg1.N) : (dat V c).after 8 t = (outsAt1 V c t.val t.isLt).2.2.2.2.1 := by dsimp only [dat]
theorem after1_9 (c : Dev nD) (t : Fin cfg1.N) : (dat V c).after 9 t = (outsAt1 V c t.val t.isLt).2.2.2.2.2.1 := by dsimp only [dat]
theorem after1_10 (c : Dev nD) (t : Fin cfg1.N) : (dat V c).after 10 t = (outsAt1 V c t.val t.isLt).2.2.2.2.2.2.1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_6_B (c : Dev nD) (t : Fin cfg1.N) (h0 : ¬t.val % 18 = 0) (h1 : ¬t.val % 18 = 17) (d) :
    (dat V c).before 6 t d = (outsAt1 V c (t.val - 1) (Nat.lt_of_le_of_lt (Nat.sub_le _ _) t.isLt)).2.2.1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat]
theorem before1_6_C (c : Dev nD) (t : Fin cfg1.N) (h0 : ¬t.val % 18 = 0) (h1 : t.val % 18 = 17) (d) :
    (dat V c).before 6 t d = (outsAt1 V c (t.val - 1) (Nat.lt_of_le_of_lt (Nat.sub_le _ _) t.isLt)).2.2.1 := by
  have hN : t.val < 18 := lt_of_lt_of_eq t.isLt (show cfg1.N = 18 from N_1)
  rw [Dat.before_out_kept _ 6 rfl t (by omega) (Bool.eq_false_iff.mpr fun h => by have := (flush1_6 _).mp h; dsimp only at this; omega)
    (fun _ => rfl) (fun _ _ => rfl)]
  dsimp only [dat]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 14400000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat V c).owesAt () t.succ = (dat V c).owesAt () t.castSucc from rfl]
  rw [show (dat V c).Φ t.succ = PhiS V c (t.val + 1) t.isLt from rfl, PhiS_succ]
  have hN : t.val < 18 := lt_of_lt_of_eq t.isLt (show cfg1.N = 18 from N_1)
  by_cases h0 : t.val % 18 = 0
  · by_cases h1 : t.val % 18 = 17
    · exfalso; omega
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [show (dat V c).leavesExact 6 t = owns (c : Thread nD τ) (ms1_6 t) fullShare ((dat V c).after 6 t) from by
      unfold Dat.leavesExact; rw [liveAt1_6 t], after1_6]
      rw [show (dat V c).leavesExact 7 t = owns (c : Thread nD τ) (ms1_7 t) fullShare ((dat V c).after 7 t) from by
      unfold Dat.leavesExact; rw [liveAt1_7 t], after1_7]
      rw [show (dat V c).leavesExact 8 t = owns (c : Thread nD τ) (ms1_8 t) fullShare ((dat V c).after 8 t) from by
      unfold Dat.leavesExact; rw [liveAt1_8 t], after1_8]
      rw [Dat.leavesExact_idle (dat V c) 9 t (idleAt1_9_A t ((hcond1_0 t).mpr h0) (fun h => h1 ((hcond1_1 t).mp h))) (noFlush1_9_A t ((hcond1_0 t).mpr h0) (fun h => h1 ((hcond1_1 t).mp h)))]
      rw [Dat.leavesExact_idle (dat V c) 10 t (idleAt1_10_A t ((hcond1_0 t).mpr h0) (fun h => h1 ((hcond1_1 t).mp h))) (noFlush1_10_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold leaves_A; dsimp only; unfold out1_A_4 out1_A_5 out1_A_6 out1_A_7 out1_A_8 sout1_A_0 sout1_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ _ _ ((hcond1_0 t).mpr h0) (fun h => h1 ((hcond1_1 t).mp h)) (iblk V c 0 t) (iblk V c 1 t) (iblk V c 2 t) (iblk V c 3 t)).2.2.2.2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexact H9
        isplitl [H10]; · iexact H10
        isplitl [HS0]; · iexact HS0
        isplitl [HS1]; · iexact HS1
        iintro ⟨H0, H1, H2, H3, ⟨%e4, H4⟩, ⟨%e5, H5⟩, ⟨%e6, H6⟩, ⟨%e7, H7⟩, ⟨%e8, H8⟩, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_A_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover1_A_7 c _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover1_A_8 c _ _ _ _ _ _ _ _ _ _ _ _ _ _ _ _ _ _ _ _ _ _ _ _ _ _ _ _ _ _ _ _ _)
        isplitl [H9]; · iexists _; iexact H9
        iexists _; iexact H10
      · exfalso; have hN : t.val < 18 := lt_of_lt_of_eq t.isLt (show cfg1.N = 18 from N_1); omega
  · by_cases h1 : t.val % 18 = 17
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [show (dat V c).leavesExact 6 t = owns (c : Thread nD τ) (ms1_6 t) fullShare ((dat V c).after 6 t) from by
      unfold Dat.leavesExact; rw [liveAt1_6 t], after1_6]
      rw [show (dat V c).leavesExact 7 t = owns (c : Thread nD τ) (ms1_7 t) fullShare ((dat V c).after 7 t) from by
      unfold Dat.leavesExact; rw [liveAt1_7 t], after1_7]
      rw [show (dat V c).leavesExact 8 t = owns (c : Thread nD τ) (ms1_8 t) fullShare ((dat V c).after 8 t) from by
      unfold Dat.leavesExact; rw [liveAt1_8 t], after1_8]
      rw [show (dat V c).leavesExact 9 t = owns (c : Thread nD τ) (ms1_9 t) fullShare ((dat V c).after 9 t) from by
      unfold Dat.leavesExact; rw [liveAt1_9_C t (fun h => h0 ((hcond1_0 t).mp h)) ((hcond1_1 t).mpr h1)], after1_9]
      rw [show (dat V c).leavesExact 10 t = owns (c : Thread nD τ) (ms1_10 t) fullShare ((dat V c).after 10 t) from by
      unfold Dat.leavesExact; rw [liveAt1_10_C t (fun h => h0 ((hcond1_0 t).mp h)) ((hcond1_1 t).mpr h1)], after1_10]
      by_cases hz : t.val = 0
      · exfalso; have hN : t.val < 18 := lt_of_lt_of_eq t.isLt (show cfg1.N = 18 from N_1); omega
      · rw [PhiS_castSucc V c t, PhiS_pos V c _ _ hz]
        rw [outsAt1_C V c t h0 h1]
        simp only [before1_6_C V c t h0 h1]
        unfold leaves_C; dsimp only; unfold out1_C_4 out1_C_5 out1_C_6 out1_C_7 out1_C_8 out1_C_9 out1_C_10 sout1_C_0 sout1_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_C c (grid1.coords t) _ _ _ _ _ _ _ _ _ _ _ _ _ _ _ _ _ _ _ _ _ _ _ _ _ _ (fun h => h0 ((hcond1_0 t).mp h)) ((hcond1_1 t).mpr h1) (iblk V c 0 t) (iblk V c 1 t) (iblk V c 2 t) (iblk V c 3 t) _ _ _).2.2.2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, ⟨%e4, H4⟩, ⟨%e5, H5⟩, ⟨%e6, H6⟩, ⟨%e7, H7⟩, ⟨%e8, H8⟩, ⟨%e9, H9⟩, ⟨%e10, H10⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover1_C_7 c _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover1_C_8 c _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover1_C_9 c _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _)
    · rw [show (dat V c).leavesExact 0 t = owns (c : Thread nD τ) (ms1_0 t) fullShare ((dat V c).after 0 t) from by
      unfold Dat.leavesExact; rw [liveAt1_0 t], after1_0]
      rw [show (dat V c).leavesExact 1 t = owns (c : Thread nD τ) (ms1_1 t) fullShare ((dat V c).after 1 t) from by
      unfold Dat.leavesExact; rw [liveAt1_1 t], after1_1]
      rw [show (dat V c).leavesExact 2 t = owns (c : Thread nD τ) (ms1_2 t) fullShare ((dat V c).after 2 t) from by
      unfold Dat.leavesExact; rw [liveAt1_2 t], after1_2]
      rw [show (dat V c).leavesExact 3 t = owns (c : Thread nD τ) (ms1_3 t) fullShare ((dat V c).after 3 t) from by
      unfold Dat.leavesExact; rw [liveAt1_3 t], after1_3]
      rw [show (dat V c).leavesExact 4 t = owns (c : Thread nD τ) (ms1_4 t) fullShare ((dat V c).after 4 t) from by
      unfold Dat.leavesExact; rw [liveAt1_4 t], after1_4]
      rw [show (dat V c).leavesExact 5 t = owns (c : Thread nD τ) (ms1_5 t) fullShare ((dat V c).after 5 t) from by
      unfold Dat.leavesExact; rw [liveAt1_5 t], after1_5]
      rw [show (dat V c).leavesExact 6 t = owns (c : Thread nD τ) (ms1_6 t) fullShare ((dat V c).after 6 t) from by
      unfold Dat.leavesExact; rw [liveAt1_6 t], after1_6]
      rw [show (dat V c).leavesExact 7 t = owns (c : Thread nD τ) (ms1_7 t) fullShare ((dat V c).after 7 t) from by
      unfold Dat.leavesExact; rw [liveAt1_7 t], after1_7]
      rw [show (dat V c).leavesExact 8 t = owns (c : Thread nD τ) (ms1_8 t) fullShare ((dat V c).after 8 t) from by
      unfold Dat.leavesExact; rw [liveAt1_8 t], after1_8]
      rw [Dat.leavesExact_idle (dat V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
      rw [Dat.leavesExact_idle (dat V c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      by_cases hz : t.val = 0
      · exfalso; have hN : t.val < 18 := lt_of_lt_of_eq t.isLt (show cfg1.N = 18 from N_1); omega
      · rw [PhiS_castSucc V c t, PhiS_pos V c _ _ hz]
        rw [outsAt1_B V c t h0 h1]
        simp only [before1_6_B V c t h0 h1]
        unfold leaves_B; dsimp only; unfold out1_B_4 out1_B_5 out1_B_6 out1_B_7 out1_B_8 sout1_B_0 sout1_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk V c 0 t) (iblk V c 1 t) (iblk V c 2 t) (iblk V c 3 t) _ _ _).2.2.2.2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexists _; iexact H7
        isplitl [H8]; · iexists _; iexact H8
        isplitl [H9]; · iexact H9
        isplitl [H10]; · iexact H10
        isplitl [HS0]; · iexact HS0
        isplitl [HS1]; · iexact HS1
        iintro ⟨H0, H1, H2, H3, ⟨%e4, H4⟩, ⟨%e5, H5⟩, ⟨%e6, H6⟩, ⟨%e7, H7⟩, ⟨%e8, H8⟩, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_B_5 c _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_B_6 c _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover1_B_7 c _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover1_B_8 c _ _ _ _ _ _ _ _ _ _ _ _ _ _ _ _ _ _ _ _ _ _ _ _ _ _ _ _ _ _ _ _ _ _ _ _)
        isplitl [H9]; · iexists _; iexact H9
        iexists _; iexact H10

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexists _; iexact HS0
    iexists _; iexact HS1
  iexact Hg

theorem hout (c : Dev nD) : (dat V c).Φ (Fin.last cfg1.N) ⊢ Pipeline.ΦA spec1 c :=
  Phi_out V c _ (by rw [Fin.val_last]; have : cfg1.N = 18 := N_1; omega)

end Cert.KernelIdeal.Linear

end
-- ==== Proof.KernelIdeal.Whole.lean ====
/-
  The whole program's run: the host stretch that computes the three scales, the call that quantises the weights, the
  host stretch that gathers the scalars, the call that computes the products, and the host stretch that shapes the
  results. What every buffer holds at each boundary is a fold through these five parts; every execution ends with every
  buffer at the last boundary's contents, and with every semaphore counter at zero.
-/
module

public import proofs.«01_k».proof.Proof.KernelIdeal.QuantiseW.Frame
public import proofs.«01_k».proof.Proof.KernelIdeal.Linear.Frame
public import proofs.«01_k».proof.Proof.Gen.KernelIdeal.Regions
public import Idealize.ShloMosaic.Lib.Pipeline.RegionsLoop
public import Idealize.ShloMosaic.Lib.Pipeline.FrameSuffix
public import Idealize.ShloMosaic.Lib.Tactic
public import Idealize.ShloMosaic.Lib.Quiescent

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's six arguments. -/
abbrev argRefs : List (Ref sig .tc) := [main_arg0, main_arg1, main_arg2, main_arg3, main_arg4, main_arg5]

/-! ## The buffers' contents at each boundary -/

/-- What the first call finds: the arguments, and the scales the host has computed. -/
abbrev E0 : (c : Dev nD) → (b : Ref sig .tc) → Buf (Elt F) ((c : Thread nD τ).loc b) := fun c b => V7 m c b

theorem V7_args (c : Dev nD) (a : Ref sig .tc) (ha : a ∈ argRefs) : V7 m c a = m ((c : Thread nD τ).loc a) := by
  rw [V7_of m c a (ListAll.forall_mem_of_all_decide (p := fun a => a ∉ hostOps0_6_W) (l := argRefs) (by decide +kernel) a ha),
    V6_of m c a (ListAll.forall_mem_of_all_decide (p := fun a => a ∉ hostOps0_5_W) (l := argRefs) (by decide +kernel) a ha),
    V5_of m c a (ListAll.forall_mem_of_all_decide (p := fun a => a ∉ hostOps0_4_W) (l := argRefs) (by decide +kernel) a ha),
    V4_of m c a (ListAll.forall_mem_of_all_decide (p := fun a => a ∉ hostOps0_3_W) (l := argRefs) (by decide +kernel) a ha),
    V3_of m c a (ListAll.forall_mem_of_all_decide (p := fun a => a ∉ hostOps0_2_W) (l := argRefs) (by decide +kernel) a ha),
    V2_of m c a (ListAll.forall_mem_of_all_decide (p := fun a => a ∉ hostOps0_1_W) (l := argRefs) (by decide +kernel) a ha),
    V1_of m c a (ListAll.forall_mem_of_all_decide (p := fun a => a ∉ hostOps0_W) (l := argRefs) (by decide +kernel) a ha)]

/-- After the first call: its arrays at what it leaves, every other buffer as entered. -/
def W8 (c : Dev nD) : Valuation τ sig (Elt F) :=
  Pipeline.withArrays spec0 c (V7 m c) fun w => (QuantiseW.dat (E0 m) c).arrAt w cfg0.N

theorem W8_arr (c : Dev nD) (w : Fin cfg0.W) :
    W8 m c (Proc.devRef .tc (Pipeline.arrRef spec0 w)) = (QuantiseW.dat (E0 m) c).arrAt w cfg0.N := by
  unfold W8; exact Pipeline.withArrays_arr spec0 launch0.win.arr_inj c _ _ w

theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb

/-- A buffer that is no output of the first call keeps its contents across it. -/
theorem W8_of (c : Dev nD) (r : Ref sig .tc) (h : ∀ w : Fin cfg0.W, Pipeline.arrRef spec0 w = r → (cfg0.win w).isOut = false) :
    W8 m c (Proc.devRef .tc r) = V7 m c (Proc.devRef .tc r) := by
  by_cases hw : ∃ w : Fin cfg0.W, Pipeline.arrRef spec0 w = r
  · obtain ⟨w, rfl⟩ := hw
    exact (W8_arr m c w).trans (((QuantiseW.dat (E0 m) c).arrAt_in w (h w rfl) _).trans (QuantiseW.A_eq (E0 m) c w))
  · exact W8_of_ne m c r fun w e => hw ⟨w, e⟩

abbrev X0 : (c : Dev nD) → (b : Ref sig .tc) → Buf (Elt F) ((c : Thread nD τ).loc b) := fun c b => W8 m c b

theorem hF0 (c : Dev nD) (w : Fin cfg0.W) : (QuantiseW.dat (E0 m) c).arrAt w cfg0.N = X0 m c (Pipeline.arrRef spec0 w) :=
  (W8_arr m c w).symm
theorem hrest0 (c : Dev nD) : ∀ b, b ∉ Finset.univ.image (Pipeline.arrRef spec0) → X0 m c b = E0 m c b :=
  fun b hb => W8_of_ne m c b fun w e => hb (Finset.mem_image.mpr ⟨w, Finset.mem_univ _, e⟩)

/-- What the second call finds. -/
abbrev W9 (c : Dev nD) : Valuation τ sig (Elt F) := StableHlo.after hostOps1 (W8 m c)

theorem W9_of (c : Dev nD) (r : Ref sig .tc) (h : r ∉ hostOps1_W) : W9 m c (Proc.devRef .tc r) = W8 m c (Proc.devRef .tc r) :=
  StableHlo.after_of_writes_sub hostOps1 _ hostOps1_writes h

abbrev E1 : (c : Dev nD) → (b : Ref sig .tc) → Buf (Elt F) ((c : Thread nD τ).loc b) := fun c b => W9 m c b

/-- After the second call: its arrays at what it leaves, every other buffer as entered. -/
def W10 (c : Dev nD) : Valuation τ sig (Elt F) :=
  Pipeline.withArrays spec1 c (W9 m c) fun w => (Linear.dat (E1 m) c).arrAt w cfg1.N

theorem W10_arr (c : Dev nD) (w : Fin cfg1.W) :
    W10 m c (Proc.devRef .tc (Pipeline.arrRef spec1 w)) = (Linear.dat (E1 m) c).arrAt w cfg1.N := by
  unfold W10; exact Pipeline.withArrays_arr spec1 launch1.win.arr_inj c _ _ w

theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

/-- A buffer that is no output of the second call keeps its contents across it. -/
theorem W10_of (c : Dev nD) (r : Ref sig .tc) (h : ∀ w : Fin cfg1.W, Pipeline.arrRef spec1 w = r → (cfg1.win w).isOut = false) :
    W10 m c (Proc.devRef .tc r) = W9 m c (Proc.devRef .tc r) := by
  by_cases hw : ∃ w : Fin cfg1.W, Pipeline.arrRef spec1 w = r
  · obtain ⟨w, rfl⟩ := hw
    exact (W10_arr m c w).trans (((Linear.dat (E1 m) c).arrAt_in w (h w rfl) _).trans (Linear.A_eq (E1 m) c w))
  · exact W10_of_ne m c r fun w e => hw ⟨w, e⟩

abbrev X1 : (c : Dev nD) → (b : Ref sig .tc) → Buf (Elt F) ((c : Thread nD τ).loc b) := fun c b => W10 m c b

theorem hF1 (c : Dev nD) (w : Fin cfg1.W) : (Linear.dat (E1 m) c).arrAt w cfg1.N = X1 m c (Pipeline.arrRef spec1 w) :=
  (W10_arr m c w).symm
theorem hrest1 (c : Dev nD) : ∀ b, b ∉ Finset.univ.image (Pipeline.arrRef spec1) → X1 m c b = E1 m c b :=
  fun b hb => W10_of_ne m c b fun w e => hb (Finset.mem_image.mpr ⟨w, Finset.mem_univ _, e⟩)

/-- At the return. -/
abbrev W11 (c : Dev nD) : Valuation τ sig (Elt F) := StableHlo.after hostOps2 (W10 m c)

theorem W11_of (c : Dev nD) (r : Ref sig .tc) (h : r ∉ hostOps2_W) : W11 m c (Proc.devRef .tc r) = W10 m c (Proc.devRef .tc r) :=
  StableHlo.after_of_writes_sub hostOps2 _ hostOps2_writes h

/-- The arguments end as launched. -/
theorem W11_args (c : Dev nD) (a : Ref sig .tc) (ha : a ∈ argRefs) : W11 m c (Proc.devRef .tc a) = m ((c : Thread nD τ).loc a) := by
  rw [W11_of m c a (ListAll.forall_mem_of_all_decide (p := fun a => a ∉ hostOps2_W) (l := argRefs) (by decide +kernel) a ha),
    W10_of m c a (ListAll.forall_mem_of_all_decide (p := fun a => ∀ w : Fin cfg1.W, Pipeline.arrRef spec1 w = a → (cfg1.win w).isOut = false) (l := argRefs) (by decide +kernel) a ha),
    W9_of m c a (ListAll.forall_mem_of_all_decide (p := fun a => a ∉ hostOps1_W) (l := argRefs) (by decide +kernel) a ha),
    W8_of m c a (ListAll.forall_mem_of_all_decide (p := fun a => ∀ w : Fin cfg0.W, Pipeline.arrRef spec0 w = a → (cfg0.win w).isOut = false) (l := argRefs) (by decide +kernel) a ha)]
  exact V7_args m c a ha

/-! ## The proof data family and the thread state -/

abbrev adm : (p : Fin 2) → (pcfgs (F := F) p).Adm := fun p => (cfgs p).toPCfg_adm

/-- Each call's proof data at its entry contents. -/
def pdats : (p : Fin 2) → (c : Dev nD) → Dat τ (Elt F) Unit ℕ (UR sig nD τ) ℕ (Pipeline.pin (pcfgs (F := F)) adm p) c
  | ⟨0, _⟩ => fun c => QuantiseW.dat (E0 m) c
  | ⟨1, _⟩ => fun c => Linear.dat (E1 m) c
abbrev 𝒱₀ : Variants := Variants.none
abbrev L : GSem nD τ sig → Finset Unit := fun _ => ∅
abbrev lv : GSem nD τ sig → Unit → ℕ := fun _ _ => 0
/-- What rides beside the buffers: the generator's register at some state, and nothing owed. -/
abbrev R (c : Dev nD) : sProp 𝕄 := iprop((∃ r, prngReg c r) ∗ ∃ W, owes (c : Thread nD τ) (0 : CellTallies nD τ sig Unit) W)
/-- A host stretch as a part of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

/-! ## The two calls as parts of the run -/

set_option backward.isDefEq.respectTransparency.types false in
/-- The call that quantises the weights, over every buffer of the program. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (QuantiseW.body_obligation (E0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) (QuantiseW.A_eq (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := QuantiseW.hin (E0 m) c
    unfold Pipeline.ΦA at h
    rw [show (pdats m 0 c).Φ 0 = (QuantiseW.dat (E0 m) c).Φ 0 from rfl]
    iintro ⟨Hp, -, Hr⟩
    iapply h
    isplitl [Hr]; · iexact Hr
    iexact Hp
  hout c := by
    have h := QuantiseW.hout (E0 m) c
    unfold Pipeline.ΦA at h
    rw [Pipeline.ownSems0_none, show (pdats m 0 c).Φ (Fin.last _) = (QuantiseW.dat (E0 m) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call that computes the products, over every buffer of the program. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Linear.body_obligation (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) (Linear.A_eq (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Linear.hin (E1 m) c
    unfold Pipeline.ΦA at h
    rw [show (pdats m 1 c).Φ 0 = (Linear.dat (E1 m) c).Φ 0 from rfl]
    iintro ⟨Hp, -, Hr⟩
    iapply h
    isplitl [Hr]; · iexact Hr
    iexact Hp
  hout c := by
    have h := Linear.hout (E1 m) c
    unfold Pipeline.ΦA at h
    rw [Pipeline.ownSems0_none, show (pdats m 1 c).Φ (Fin.last _) = (Linear.dat (E1 m) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .host (hseg hostOps1 hostOps1_sub hostOps1_fresh (W8 m)),
    .region (reg1 m),
    .host (hseg hostOps2 hostOps2_sub hostOps2_fresh (W10 m)) ]

theorem main_run (c : Dev nD) : main (F := F) c = Pipeline.Seg.run (segs m) := (main_chain c).trans (by chain_rfl)

set_option backward.isDefEq.respectTransparency.types false in
/-- Every execution ends, nothing faulting, with every buffer of the program at the last boundary's contents and every
    semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h hz => ⟨h, funext fun g => hz g (.inr (regions_no_unscoped g.2))⟩)

/-- The arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (mem_uc main_arg0 (by decide))).trans (W11_args m c main_arg0 (by decide)),
     (h.1 c _ (mem_uc main_arg1 (by decide))).trans (W11_args m c main_arg1 (by decide)),
     (h.1 c _ (mem_uc main_arg2 (by decide))).trans (W11_args m c main_arg2 (by decide)),
     (h.1 c _ (mem_uc main_arg3 (by decide))).trans (W11_args m c main_arg3 (by decide)),
     (h.1 c _ (mem_uc main_arg4 (by decide))).trans (W11_args m c main_arg4 (by decide)),
     (h.1 c _ (mem_uc main_arg5 (by decide))).trans (W11_args m c main_arg5 (by decide))⟩, h.2⟩) (run m ρ)

end Cert.KernelIdeal.Whole

end
-- ==== Proof.Reads.lean ====
/-
  Loads and stores through a rectangle that is the whole buffer, and the load of one scalar of a vector: what they read
  and leave. Stated once, for arrays of two and of three axes of any sizes.
-/
module

public import Idealize.ShloMosaic.Lib.Pipeline.Value
public import Idealize.ShloMosaic.Lib.Pipeline.ValueKit
public import Idealize.ShloMosaic.Lib.Pointwise

@[expose] public section

set_option maxRecDepth 16384

noncomputable section

namespace Cert.Reads

open Idealize.ShloMosaic Idealize.ShloMosaic.TcCoe

variable {Val : EltTy → Type} {e : EltTy}

/-- Offsets zero on two and on three axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole array of two axes is the array. -/
theorem ld2 {a b : Nat} (X : (⟨2, ![a, b]⟩ : Shape).Idx → Val e) (inb) :
    View.ld (S := ⟨2, ![a, b]⟩) X (Rect.unit ![0, 0] ![a, b] inb) = X := View.ld_unit_zero (S := ⟨2, ![a, b]⟩) hz2 inb X

/-- A load of a whole array of three axes is the array. -/
theorem ld3 {a b c : Nat} (X : (⟨3, ![a, b, c]⟩ : Shape).Idx → Val e) (inb) :
    View.ld (S := ⟨3, ![a, b, c]⟩) X (Rect.unit ![0, 0, 0] ![a, b, c] inb) = X := View.ld_unit_zero (S := ⟨3, ![a, b, c]⟩) hz3 inb X

/-- A load of one element of a vector. -/
theorem ld1 {n : Nat} (X : (⟨1, ![n]⟩ : Shape).Idx → Val e) (k : Nat) (hk : k < n) (inb) (h : 0 < (⟨1, ![1]⟩ : Shape).numel) :
    View.ld (S := ⟨1, ![n]⟩) X (Rect.unit ![k] ![1] inb) (Shape.Idx.first (s := ⟨1, ![1]⟩) h) = X (ix1 ⟨k, hk⟩) :=
  View.ld_unit_apply_of X _ _ inb _ _ fun a => by fin_cases a; rfl

/-- A whole-array load of what one whole-array store left. -/
theorem readCov2 [∀ e, Nonempty (Val e)] {sig : RefSig} {κ : Kind} {sp : Space} {a b : Nat}
    (v : View sig κ sp ⟨2, ![a, b]⟩ e) (inb inb') (w : (⟨2, ![a, b]⟩ : Shape).Idx → Val e) :
    v.readCov [(⟨Rect.unit ![0, 0] ![a, b] inb, w⟩ : View.Piece Val ⟨2, ![a, b]⟩ e)] (Rect.unit ![0, 0] ![a, b] inb').toLoadRect = w :=
  View.readCov_unit_zero (S := ⟨2, ![a, b]⟩) v hz2 inb w

end Cert.Reads

end
-- ==== Proof.KernelIdeal.QuantiseW.Leaves.lean ====
/-
  What the body of the call that quantises the weights leaves at one grid point, as values: the codes of the block, and
  the running maxima in its scratch buffer. Each is the payload of the body's one store to that buffer.
-/
module

public import proofs.«01_k».proof.Proof.KernelIdeal.QuantiseW.Frame
public import proofs.«01_k».proof.Proof.Reads

@[expose] public section

set_option maxRecDepth 16384

noncomputable section

namespace Cert.KernelIdeal.QuantiseW

open Cert.KernelIdeal Cert.KernelIdeal.Gen
open Idealize.ShloMosaic Idealize.ShloMosaic.TcCoe Idealize.SL.Sem
open Idealize.ShloMosaic.Pipeline (Dat)
open Cert.Reads

variable {F : FTy → Type} [FloatOps F]

section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : cond0_0 i) (hc1 : ¬cond0_1 i) (hc2 : ¬cond0_2 i)
  (x0 : Vec F S1 .f32) (x1 : Vec F S416x1536 .f32)

/-- First point: the codes of the block. -/
theorem leaves_A_2 : (leaves_A c i arg1 harg1 arg2 harg2 arg3 harg3 arg4 harg4 arg5 harg5 hc0 hc1 hc2 x0 x1).1 = k0_pay1 x1 (x0 (ix1 0)) := by
  unfold leaves_A; dsimp only; unfold out0_A_2
  rw [View.read_writes_eq_canon _ _ _ (fun _ => cover0_A_2 ..)]
  unfold kernelRun0_A; dsimp only; sl_unfold_words
  rw [View.canon_unit_zero hz2]
  simp only [View.readAt_eq_ld, harg1.read_unread, harg2.read_unread, ld2]
  exact congrArg _ (ld1 _ 0 (by decide) _ _)

/-- First point: the running maxima. -/
theorem leaves_A_s0 : (leaves_A c i arg1 harg1 arg2 harg2 arg3 harg3 arg4 harg4 arg5 harg5 hc0 hc1 hc2 x0 x1).2.2 = k0_pay3 x1 := by
  unfold leaves_A; dsimp only; unfold sout0_A_0
  rw [View.read_writes_eq_canon _ _ _ (fun _ => scover0_A_0 ..)]
  unfold kernelRun0_A; dsimp only; sl_unfold_words
  rw [View.canon_unit_zero hz2]
  simp only [View.readAt_eq_ld, harg2.read_unread, ld2]

end

section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : ¬cond0_2 i)
  (x0 : Vec F S1 .f32) (x1 : Vec F S416x1536 .f32) (xs0 : Vec F S8x1536 .f32)

/-- A point in between: the codes of the block. -/
theorem leaves_B_2 : (leaves_B c i arg1 harg1 arg2 harg2 arg3 harg3 arg4 harg4 arg5 harg5 hc0 hc1 hc2 x0 x1 xs0).1 = k0_pay1 x1 (x0 (ix1 0)) := by
  unfold leaves_B; dsimp only; unfold out0_B_2
  rw [View.read_writes_eq_canon _ _ _ (fun _ => cover0_B_2 ..)]
  unfold kernelRun0_B; dsimp only; sl_unfold_words
  rw [View.canon_unit_zero hz2]
  simp only [View.readAt_eq_ld, harg1.read_unread, harg2.read_unread, ld2]
  exact congrArg _ (ld1 _ 0 (by decide) _ _)

/-- A point in between: the running maxima. -/
theorem leaves_B_s0 : (leaves_B c i arg1 harg1 arg2 harg2 arg3 harg3 arg4 harg4 arg5 harg5 hc0 hc1 hc2 x0 x1 xs0).2.2 = k0_pay4 x1 xs0 := by
  unfold leaves_B; dsimp only; unfold sout0_B_0
  rw [View.read_writes_eq_canon _ _ _ (fun _ => scover0_B_0 ..)]
  unfold kernelRun0_B; dsimp only; sl_unfold_words
  rw [View.canon_unit_zero hz2]
  simp only [View.readAt_eq_ld, harg2.read_unread, harg5.read_unread, ld2]

end

section
variable (c : Dev nD) (i : grid0.Coords) (arg1 : Memref sig .tc .smem S1 .f32) (harg1 : arg1.IsWhole) (arg2 : Memref sig .tc .vmem S416x1536 .f32) (harg2 : arg2.IsWhole) (arg3 : Memref sig .tc .vmem S416x1536 .fp8e4m3) (harg3 : arg3.IsWhole) (arg4 : Memref sig .tc .vmem S1x1 .f32) (harg4 : arg4.IsWhole) (arg5 : Memref sig .tc .vmem S8x1536 .f32) (harg5 : arg5.IsWhole) (hc0 : ¬cond0_0 i) (hc1 : cond0_1 i) (hc2 : cond0_2 i)
  (x0 : Vec F S1 .f32) (x1 : Vec F S416x1536 .f32) (xs0 : Vec F S8x1536 .f32)

/-- Last point: the codes of the block. -/
theorem leaves_C_2 : (leaves_C c i arg1 harg1 arg2 harg2 arg3 harg3 arg4 harg4 arg5 harg5 hc0 hc1 hc2 x0 x1 xs0).1 = k0_pay1 x1 (x0 (ix1 0)) := by
  unfold leaves_C; dsimp only; unfold out0_C_2
  rw [View.read_writes_eq_canon _ _ _ (fun _ => cover0_C_2 ..)]
  unfold kernelRun0_C; dsimp only; sl_unfold_words
  rw [View.canon_unit_zero hz2]
  simp only [View.readAt_eq_ld, harg1.read_unread, harg2.read_unread, ld2]
  exact congrArg _ (ld1 _ 0 (by decide) _ _)

/-- Last point: the running maxima. -/
theorem leaves_C_s0 : (leaves_C c i arg1 harg1 arg2 harg2 arg3 harg3 arg4 harg4 arg5 harg5 hc0 hc1 hc2 x0 x1 xs0).2.2 = k0_pay4 x1 xs0 := by
  unfold leaves_C; dsimp only; unfold sout0_C_0
  rw [View.read_writes_eq_canon _ _ _ (fun _ => scover0_C_0 ..)]
  unfold kernelRun0_C; dsimp only; sl_unfold_words
  rw [View.canon_unit_zero hz2]
  simp only [View.readAt_eq_ld, harg2.read_unread, harg5.read_unread, ld2]

/-- Last point: the largest |w|. -/
theorem leaves_C_3 : (leaves_C c i arg1 harg1 arg2 harg2 arg3 harg3 arg4 harg4 arg5 harg5 hc0 hc1 hc2 x0 x1 xs0).2.1 = k0_pay5 (k0_pay4 x1 xs0) := by
  unfold leaves_C; dsimp only; unfold out0_C_3
  rw [View.read_writes_eq_canon _ _ _ (fun _ => cover0_C_3 ..)]
  unfold kernelRun0_C; dsimp only; sl_unfold_words
  rw [View.canon_unit_zero hz2]
  simp only [readCov2, View.readAt_eq_ld, harg2.read_unread, harg5.read_unread, ld2]

end

end Cert.KernelIdeal.QuantiseW

end
-- ==== Proof.Spec.lean ====
/-
  The mathematics of the problem over the extended reals, element by element: the two quantisers, the three products and
  the bound that says what a largest absolute value is. Both programs are shown to compute these.
-/
module

public import Idealize.ShloMosaic.Lib.Pointwise
public import Idealize.ShloMosaic.Lib.Pipeline.ValueKit

@[expose] public section

noncomputable section

namespace Cert.Spec

open Idealize.ShloMosaic

/-- Quantise to the range of fp8 e4m3: multiply by the inverse scale and clip at 448. -/
def q448 (v s : EReal) : EReal := min (Ideal.ofBits .f32 0x43E00000#32) (max (Ideal.ofBits .f32 0xC3E00000#32) (v * s))

/-- Quantise to the range of fp8 e5m2: multiply by the inverse scale and clip at 57344. -/
def q57344 (v s : EReal) : EReal := min (Ideal.ofBits .f32 0x47600000#32) (max (Ideal.ofBits .f32 0xC7600000#32) (v * s))

/-- The absolute value. -/
def abs (v : EReal) : EReal := max v (-v)

theorem abs_nonneg (v : EReal) : 0 ≤ abs v := by
  unfold abs
  rcases le_total 0 v with h | h
  · exact le_max_of_le_left h
  · exact le_max_of_le_right (EReal.neg_nonneg.mpr h)

/-- The word of minus infinity is the least extended real, in f32 and in bf16. -/
theorem negInf_f32 : Ideal.ofBits .f32 0xFF800000#32 = (⊥ : EReal) := by simp [Ideal.ofBits, Ideal.ieee]
theorem negInf_bf16 : Ideal.ofBits .bf16 0xFF80#16 = (⊥ : EReal) := by simp [Ideal.ofBits, Ideal.ieee]

/-- A maximum folded from minus infinity is at most `B` exactly when every element is. -/
theorem foldMax_le {ι : Type} (s : Finset ι) (f : ι → EReal) {b : EReal} (hb : b = ⊥) (B : EReal) :
    s.fold max b f ≤ B ↔ ∀ i ∈ s, f i ≤ B := by
  rw [Finset.fold_max_le, hb]; exact ⟨fun h => h.2, fun h => ⟨bot_le, h⟩⟩

variable (x : Fin 3 → Fin 6144 → Fin 1664 → EReal) (w : Fin 1664 → Fin 1536 → EReal) (d : Fin 3 → Fin 6144 → Fin 1536 → EReal)
  (sx sw sd t : EReal)

/-- The forward product of the codes, scaled by `t`. -/
def y (a : Fin 3) (b : Fin 6144) (j : Fin 1536) : EReal := (∑ k, q448 (x a b k) sx * q448 (w k j) sw) * t

/-- The product for the gradient of the input, scaled by `t`. -/
def dx (a : Fin 3) (b : Fin 6144) (k : Fin 1664) : EReal := (∑ j, q57344 (d a b j) sd * q448 (w k j) sw) * t

/-- The product for the gradient of the weights, over all tokens, scaled by `t`. -/
def dw (k : Fin 1664) (j : Fin 1536) : EReal := (∑ a, ∑ b, q448 (x a b k) sx * q57344 (d a b j) sd) * t

end Cert.Spec

end
-- ==== Proof.KernelIdeal.QuantiseW.Value.lean ====
/-
  What the call that quantises the weights computes over the extended reals: its codes array is the quantised weights, and
  its other array holds the largest absolute weight, given by the bounds that it meets.
-/
module

public import proofs.«01_k».proof.Proof.KernelIdeal.QuantiseW.Leaves
public import proofs.«01_k».proof.Proof.Spec

@[expose] public section

set_option maxRecDepth 16384

noncomputable section

namespace Cert.KernelIdeal.QuantiseW

open Cert.KernelIdeal Cert.KernelIdeal.Gen
open Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b)) (c : Dev nD)

/-- The weights and their inverse scale, as the call finds them. -/
abbrev wArr : Vec Ideal S1664x1536 .f32 := V c main_arg1
abbrev wInv : Elt Ideal .f32 := (V c main_v87 : Vec Ideal S1 .f32) (ix1 0)

/-- At every point the codes block is the quantised weights block. -/
theorem outs_codes (t : Fin cfg0.N) : (outsAt0 V c t.val t.isLt).1 = k0_pay1 (iblk V c 1 t) (iblk V c 0 t (ix1 0)) := by
  have hN : t.val < 4 := lt_of_lt_of_eq t.isLt (show cfg0.N = 4 from N_0)
  by_cases h0 : t.val % 4 = 0
  · rw [outsAt0_A V c t h0 (by omega) (by omega)]; exact leaves_A_2 ..
  · by_cases h2 : t.val % 4 = 3
    · rw [outsAt0_C V c t h0 (by omega) h2]; exact leaves_C_2 ..
    · rw [outsAt0_B V c t h0 (by omega) h2]; exact leaves_B_2 ..

/-- The block indices of the weights and of the codes are the point; the scale has one block. -/
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index0 : ∀ t : Fin cfg0.N, win0_0.index t (0 : Fin 1) = 0 :=
  (by decide +kernel : ∀ t : Fin grid0.N, _)

/-- The scale as each point reads it. -/
theorem iblk_s (t : Fin cfg0.N) : iblk V c 0 t (ix1 0) = wInv V c := by
  have e : ((win0_0.blk t).view.emb (ix1 0) 0).val = win0_0.index t (0 : Fin 1) * 1 + 1 * 0 := rfl
  rw [index0] at e
  unfold iblk
  blk_simp
  exact congrArg (V c main_v87 : Vec Ideal S1 .f32) ((eq_ix1 _).trans (congrArg ix1 (Fin.ext e)))

/-- Where a block of the weights or of the codes lies. -/
theorem emb1 (t : Fin cfg0.N) (r : Fin 416) (j : Fin 1536) (h : t.val * 416 + r.val < 1664) :
    (win0_1.blk t).view.emb (ix2 r j) = (ix2 ⟨t.val * 416 + r.val, h⟩ j : S1664x1536.Idx) := by
  have e0 : ((win0_1.blk t).view.emb (ix2 r j) 0).val = win0_1.index t (0 : Fin 2) * 416 + 1 * r.val := rfl
  have e1 : ((win0_1.blk t).view.emb (ix2 r j) 1).val = win0_1.index t (1 : Fin 2) * 1536 + 1 * j.val := rfl
  rw [(index1 t).1] at e0
  rw [(index1 t).2] at e1
  exact (eq_ix2 _).trans (congrArg₂ ix2 (Fin.ext (e0.trans (by dsimp only; omega))) (Fin.ext (e1.trans (by omega))))
theorem emb2 (t : Fin cfg0.N) (r : Fin 416) (j : Fin 1536) (h : t.val * 416 + r.val < 1664) :
    (win0_2.blk t).view.emb (ix2 r j) = (ix2 ⟨t.val * 416 + r.val, h⟩ j : S1664x1536.Idx) := by
  have e0 : ((win0_2.blk t).view.emb (ix2 r j) 0).val = win0_2.index t (0 : Fin 2) * 416 + 1 * r.val := rfl
  have e1 : ((win0_2.blk t).view.emb (ix2 r j) 1).val = win0_2.index t (1 : Fin 2) * 1536 + 1 * j.val := rfl
  rw [(index2 t).1] at e0
  rw [(index2 t).2] at e1
  exact (eq_ix2 _).trans (congrArg₂ ix2 (Fin.ext (e0.trans (by dsimp only; omega))) (Fin.ext (e1.trans (by omega))))

/-- A block of the weights as each point reads it. -/
theorem iblk_w (t : Fin cfg0.N) (r : Fin 416) (j : Fin 1536) (h : t.val * 416 + r.val < 1664) :
    iblk V c 1 t (ix2 r j) = wArr V c (ix2 ⟨t.val * 416 + r.val, h⟩ j) := by
  unfold iblk
  blk_simp
  exact congrArg (wArr V c) (emb1 t r j h)

/-- The quantiser's value, element by element. -/
theorem pay1_apply (x : Vec Ideal S416x1536 .f32) (s : Elt Ideal .f32) (r : Fin 416) (j : Fin 1536) :
    k0_pay1 x s (ix2 r j) = q448 (x (ix2 r j)) s := by
  pointwise [k0_pay1]
  rfl

/-- The codes array after the call. -/
theorem codes : (dat V c).arrAt 2 cfg0.N = fun i => q448 (wArr V c i) (wInv V c) := by
  refine (dat V c).arrAt_eq_of_covers 2 _ (by decide +kernel) fun t hf y => ?_
  have hN : t.val < 4 := lt_of_lt_of_eq t.isLt (show cfg0.N = 4 from N_0)
  blk_simp
  rw [after0_2, outs_codes, iblk_s]
  obtain ⟨r, j, rfl⟩ : ∃ (r : Fin 416) (j : Fin 1536), y = (ix2 r j : S416x1536.Idx) := ⟨y 0, y 1, eq_ix2 y⟩
  have h : t.val * 416 + r.val < 1664 := by omega
  refine (pay1_apply _ _ r j).trans ?_
  rw [iblk_w V c t r j h]
  exact congrArg (fun i => q448 (wArr V c i) (wInv V c)) (emb2 t r j h).symm

/-- The largest absolute value over the rows of a block that share a place in their group of eight. -/
theorem pay2_le (x : Vec Ideal S416x1536 .f32) (r : Fin 8) (j : Fin 1536) (B : EReal) :
    k0_pay2 x (ix2 r j) ≤ B ↔ ∀ q : Fin 52, abs (x (ix2 ⟨q.val * 8 + r.val, by omega⟩ j)) ≤ B := by
  pointwise [k0_pay2]
  exact (foldMax_le _ _ negInf_f32 B).trans ⟨fun h q => h q (Finset.mem_univ q), fun h q _ => h q⟩

/-- The largest element of the running maxima. -/
theorem pay5_le (p : Vec Ideal S8x1536 .f32) (i : S1x1.Idx) (B : EReal) :
    k0_pay5 p i ≤ B ↔ ∀ (r : Fin 8) (j : Fin 1536), p (ix2 r j) ≤ B := by
  pointwise [k0_pay5]
  exact (foldMax_le _ _ negInf_f32 B).trans ⟨fun h r j => h (r, j) (Finset.mem_univ _), fun h q _ => h q.1 q.2⟩

/-- The running maximum takes in the point's block. -/
theorem pay4_le (x : Vec Ideal S416x1536 .f32) (p : Vec Ideal S8x1536 .f32) (r : Fin 8) (j : Fin 1536) (B : EReal) :
    k0_pay4 x p (ix2 r j) ≤ B ↔ p (ix2 r j) ≤ B ∧ ∀ q : Fin 52, abs (x (ix2 ⟨q.val * 8 + r.val, by omega⟩ j)) ≤ B := by
  rw [show k0_pay4 x p (ix2 r j) = max (p (ix2 r j)) (k0_pay2 x (ix2 r j)) by pointwise [k0_pay4], max_le_iff, pay2_le]

/-- What the running maximum bounds after the point `n`. -/
theorem acc_le (n : Nat) (hn : n < cfg0.N) (r : Fin 8) (j : Fin 1536) (B : EReal) :
    (outsAt0 V c n hn).2.2 (ix2 r j) ≤ B ↔
      ∀ (u : Fin cfg0.N), u.val ≤ n → ∀ q : Fin 52, abs (iblk V c 1 u (ix2 ⟨q.val * 8 + r.val, by omega⟩ j)) ≤ B := by
  induction n with
  | zero =>
    have e : (outsAt0 V c 0 hn).2.2 = k0_pay3 (iblk V c 1 ⟨0, hn⟩) := by
      rw [outsAt0_A V c ⟨0, hn⟩ (Nat.zero_mod 4) (by dsimp only; omega) (by dsimp only; omega)]; exact leaves_A_s0 ..
    rw [e, show k0_pay3 (iblk V c 1 ⟨0, hn⟩) (ix2 r j) = k0_pay2 (iblk V c 1 ⟨0, hn⟩) (ix2 r j) by pointwise [k0_pay3], pay2_le]
    exact ⟨fun h u hu => by obtain rfl : u = ⟨0, hn⟩ := Fin.ext (Nat.le_zero.mp hu); exact h, fun h => h ⟨0, hn⟩ le_rfl⟩
  | succ n ih =>
    have hN : n + 1 < 4 := lt_of_lt_of_eq hn (show cfg0.N = 4 from N_0)
    have e : (outsAt0 V c (n + 1) hn).2.2 = k0_pay4 (iblk V c 1 ⟨n + 1, hn⟩) (outsAt0 V c n (by omega)).2.2 := by
      by_cases h2 : (n + 1) % 4 = 3
      · rw [outsAt0_C V c ⟨n + 1, hn⟩ (by dsimp only; omega) (by dsimp only; omega) h2]; exact leaves_C_s0 ..
      · rw [outsAt0_B V c ⟨n + 1, hn⟩ (by dsimp only; omega) (by dsimp only; omega) h2]; exact leaves_B_s0 ..
    rw [e, pay4_le, ih]
    constructor
    · rintro ⟨h, h'⟩ u hu
      rcases Nat.lt_or_ge u.val (n + 1) with hu' | hu'
      · exact h u (by omega)
      · obtain rfl : u = ⟨n + 1, hn⟩ := Fin.ext (by dsimp only; omega)
        exact h'
    · exact fun h => ⟨fun u hu => h u (by omega), h ⟨n + 1, hn⟩ le_rfl⟩

/-- The last point. -/
def ptLast : Fin cfg0.N := ⟨3, by decide +kernel⟩

/-- The array of the largest absolute weight after the call. -/
abbrev amaxArr : Vec Ideal S1x1 .f32 := (dat V c).arrAt 3 cfg0.N

theorem amaxArr_eq : amaxArr V c = k0_pay5 (outsAt0 V c ptLast.val ptLast.isLt).2.2 := by
  refine (dat V c).arrAt_eq_of_after_last 3 ptLast (by decide +kernel) _ fun j => ?_
  blk_simp
  rw [after0_3]
  have e : (outsAt0 V c ptLast.val ptLast.isLt).2.1 = k0_pay5 (outsAt0 V c ptLast.val ptLast.isLt).2.2 := by
    rw [outsAt0_C V c ptLast (by decide) (by decide) (by decide)]
    exact (leaves_C_3 ..).trans (congrArg k0_pay5 (leaves_C_s0 ..).symm)
  rw [e]

/-- It meets a bound exactly when every weight does in absolute value. -/
theorem amax_le (i : S1x1.Idx) (B : EReal) :
    amaxArr V c i ≤ B ↔ ∀ i : S1664x1536.Idx, abs (wArr V c i) ≤ B := by
  rw [amaxArr_eq, pay5_le]
  constructor
  · intro h i
    obtain ⟨k, j, rfl⟩ : ∃ (k : Fin 1664) (j : Fin 1536), i = ix2 k j := ⟨i 0, i 1, eq_ix2 i⟩
    have hq : k.val / 416 < cfg0.N := by rw [show cfg0.N = 4 from N_0]; omega
    have h1 := (acc_le V c ptLast.val ptLast.isLt ⟨k.val % 8, by omega⟩ j B).mp (h _ _) ⟨k.val / 416, hq⟩
      (by show k.val / 416 ≤ 3; omega) ⟨k.val % 416 / 8, by omega⟩
    have h2 := iblk_w V c ⟨k.val / 416, hq⟩ ⟨k.val % 416 / 8 * 8 + k.val % 8, by omega⟩ j (by dsimp only; omega)
    rw [← show (ix2 _ j : S1664x1536.Idx) = ix2 k j from congrArg (fun k => ix2 k j)
      (Fin.ext (by dsimp only; omega) : (⟨k.val / 416 * 416 + (k.val % 416 / 8 * 8 + k.val % 8), by omega⟩ : Fin 1664) = k)]
    exact (congrArg (fun v => abs v ≤ B) h2).mp h1
  · intro h r j
    refine (acc_le V c ptLast.val ptLast.isLt r j B).mpr fun u hu q => ?_
    have hu' : u.val ≤ 3 := hu
    have h2 := iblk_w V c u ⟨q.val * 8 + r.val, by omega⟩ j (by dsimp only; omega)
    exact (congrArg (fun v => abs v ≤ B) h2).mpr (h _)

end Cert.KernelIdeal.QuantiseW

end
-- ==== Proof.KernelIdeal.Linear.Leaves.lean ====
/-
  What the body of the main call leaves at one grid point, as values. Each buffer holds the payload of the last store that
  the body makes to it, and the payload's operands are the blocks, the scalars and what the buffers held before.
-/
module

public import proofs.«01_k».proof.Proof.KernelIdeal.Linear.Frame
public import proofs.«01_k».proof.Proof.Reads

@[expose] public section

set_option maxRecDepth 16384

noncomputable section

namespace Cert.KernelIdeal.Linear

open Cert.KernelIdeal Cert.KernelIdeal.Gen
open Idealize.ShloMosaic Idealize.ShloMosaic.TcCoe Idealize.SL.Sem
open Idealize.ShloMosaic.Pipeline (Dat)
open Cert.Reads

variable {F : FTy → Type} [FloatOps F]

section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : cond1_0 i) (hc1 : ¬cond1_1 i)
  (x0 : Vec F S5 .f32) (x1 : Vec F S1x1024x1664 .bf16) (x2 : Vec F S1x1024x1536 .bf16) (x3 : Vec F S1664x1536 .fp8e4m3)

/-- First point: the block of y. -/
theorem leaves_A_4 : (leaves_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).1 = k1_pay17 (k1_pay9 x1 (x0 (ix1 0))) (k1_pay13 x3) (x0 (ix1 2)) := by
  unfold leaves_A; dsimp only; unfold out1_A_4
  rw [View.read_writes_eq_canon _ _ _ (fun _ => cover1_A_4 ..)]
  unfold kernelRun1_A; dsimp only; sl_unfold_words
  rw [View.canon_unit_zero hz3]
  simp only [View.readAt_eq_ld, harg1.read_unread, harg2.read_unread, harg4.read_unread, ld2, ld3]
  exact congrArg₂ (fun a b => k1_pay17 (k1_pay9 x1 a) (k1_pay13 x3) b) (ld1 x0 0 (by decide) _ _) (ld1 x0 2 (by decide) _ _)
/-- First point: the block of dx. -/
theorem leaves_A_5 : (leaves_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1 = k1_pay18 (k1_pay10 x2 (x0 (ix1 1))) (k1_pay13 x3) (x0 (ix1 3)) := by
  unfold leaves_A; dsimp only; unfold out1_A_5
  rw [View.read_writes_eq_canon _ _ _ (fun _ => cover1_A_5 ..)]
  unfold kernelRun1_A; dsimp only; sl_unfold_words
  rw [View.canon_unit_zero hz3]
  simp only [View.readAt_eq_ld, harg1.read_unread, harg3.read_unread, harg4.read_unread, ld2, ld3]
  exact congrArg₂ (fun a b => k1_pay18 (k1_pay10 x2 a) (k1_pay13 x3) b) (ld1 x0 1 (by decide) _ _) (ld1 x0 3 (by decide) _ _)
/-- First point: dW so far. -/
theorem leaves_A_6 : (leaves_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1 = k1_pay19 (k1_pay9 x1 (x0 (ix1 0))) (k1_pay10 x2 (x0 (ix1 1))) k1_pay6 := by
  unfold leaves_A; dsimp only; unfold out1_A_6
  rw [View.read_writes_eq_canon _ _ _ (fun _ => cover1_A_6 ..)]
  unfold kernelRun1_A; dsimp only; sl_unfold_words
  rw [View.canon_cons_unit_zero hz2]
  simp only [readCov2, View.readAt_eq_ld, harg1.read_unread, harg2.read_unread, harg3.read_unread, ld2, ld3]
  exact congrArg₂ (fun a b => k1_pay19 (k1_pay9 x1 a) (k1_pay10 x2 b) k1_pay6) (ld1 x0 0 (by decide) _ _) (ld1 x0 1 (by decide) _ _)
/-- First point: the codes of x. -/
theorem leaves_A_7 : (leaves_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1 = k1_pay11 x1 (x0 (ix1 0)) := by
  unfold leaves_A; dsimp only; unfold out1_A_7
  rw [View.read_writes_eq_canon _ _ _ (fun _ => cover1_A_7 ..)]
  unfold kernelRun1_A; dsimp only; sl_unfold_words
  rw [View.canon_unit_zero hz3]
  simp only [View.readAt_eq_ld, harg1.read_unread, harg2.read_unread, ld2, ld3]
  exact congrArg (fun a => k1_pay11 x1 a) (ld1 x0 0 (by decide) _ _)
/-- First point: the codes of dy. -/
theorem leaves_A_8 : (leaves_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1 = k1_pay12 x2 (x0 (ix1 1)) := by
  unfold leaves_A; dsimp only; unfold out1_A_8
  rw [View.read_writes_eq_canon _ _ _ (fun _ => cover1_A_8 ..)]
  unfold kernelRun1_A; dsimp only; sl_unfold_words
  rw [View.canon_unit_zero hz3]
  simp only [View.readAt_eq_ld, harg1.read_unread, harg3.read_unread, ld2, ld3]
  exact congrArg (fun a => k1_pay12 x2 a) (ld1 x0 1 (by decide) _ _)
/-- First point: the running maxima of |x|. -/
theorem leaves_A_s0 : (leaves_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1 = k1_pay15 (k1_pay14 x1) k1_pay4 := by
  unfold leaves_A; dsimp only; unfold sout1_A_0
  rw [View.read_writes_eq_canon _ _ _ (fun _ => scover1_A_0 ..)]
  unfold kernelRun1_A; dsimp only; sl_unfold_words
  rw [View.canon_cons_unit_zero hz2]
  simp only [readCov2, View.readAt_eq_ld, harg2.read_unread, ld2, ld3]
/-- First point: the running maxima of |dy|. -/
theorem leaves_A_s1 : (leaves_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2 = k1_pay16 (k1_pay8 x2) k1_pay5 := by
  unfold leaves_A; dsimp only; unfold sout1_A_1
  rw [View.read_writes_eq_canon _ _ _ (fun _ => scover1_A_1 ..)]
  unfold kernelRun1_A; dsimp only; sl_unfold_words
  rw [View.canon_cons_unit_zero hz2]
  simp only [readCov2, View.readAt_eq_ld, harg3.read_unread, ld2, ld3]
end

section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : ¬cond1_1 i)
  (x0 : Vec F S5 .f32) (x1 : Vec F S1x1024x1664 .bf16) (x2 : Vec F S1x1024x1536 .bf16) (x3 : Vec F S1664x1536 .fp8e4m3) (x6 : Vec F S1664x1536 .f32) (xs0 : Vec F S8x1664 .bf16) (xs1 : Vec F S8x1536 .bf16)

/-- A point in between: the block of y. -/
theorem leaves_B_4 : (leaves_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).1 = k1_pay17 (k1_pay9 x1 (x0 (ix1 0))) (k1_pay13 x3) (x0 (ix1 2)) := by
  unfold leaves_B; dsimp only; unfold out1_B_4
  rw [View.read_writes_eq_canon _ _ _ (fun _ => cover1_B_4 ..)]
  unfold kernelRun1_B; dsimp only; sl_unfold_words
  rw [View.canon_unit_zero hz3]
  simp only [View.readAt_eq_ld, harg1.read_unread, harg2.read_unread, harg4.read_unread, ld2, ld3]
  exact congrArg₂ (fun a b => k1_pay17 (k1_pay9 x1 a) (k1_pay13 x3) b) (ld1 x0 0 (by decide) _ _) (ld1 x0 2 (by decide) _ _)
/-- A point in between: the block of dx. -/
theorem leaves_B_5 : (leaves_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.1 = k1_pay18 (k1_pay10 x2 (x0 (ix1 1))) (k1_pay13 x3) (x0 (ix1 3)) := by
  unfold leaves_B; dsimp only; unfold out1_B_5
  rw [View.read_writes_eq_canon _ _ _ (fun _ => cover1_B_5 ..)]
  unfold kernelRun1_B; dsimp only; sl_unfold_words
  rw [View.canon_unit_zero hz3]
  simp only [View.readAt_eq_ld, harg1.read_unread, harg3.read_unread, harg4.read_unread, ld2, ld3]
  exact congrArg₂ (fun a b => k1_pay18 (k1_pay10 x2 a) (k1_pay13 x3) b) (ld1 x0 1 (by decide) _ _) (ld1 x0 3 (by decide) _ _)
/-- A point in between: dW so far. -/
theorem leaves_B_6 : (leaves_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.1 = k1_pay19 (k1_pay9 x1 (x0 (ix1 0))) (k1_pay10 x2 (x0 (ix1 1))) x6 := by
  unfold leaves_B; dsimp only; unfold out1_B_6
  rw [View.read_writes_eq_canon _ _ _ (fun _ => cover1_B_6 ..)]
  unfold kernelRun1_B; dsimp only; sl_unfold_words
  rw [View.canon_unit_zero hz2]
  simp only [View.readAt_eq_ld, harg1.read_unread, harg2.read_unread, harg3.read_unread, harg7.read_unread, ld2, ld3]
  exact congrArg₂ (fun a b => k1_pay19 (k1_pay9 x1 a) (k1_pay10 x2 b) x6) (ld1 x0 0 (by decide) _ _) (ld1 x0 1 (by decide) _ _)
/-- A point in between: the codes of x. -/
theorem leaves_B_7 : (leaves_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.1 = k1_pay11 x1 (x0 (ix1 0)) := by
  unfold leaves_B; dsimp only; unfold out1_B_7
  rw [View.read_writes_eq_canon _ _ _ (fun _ => cover1_B_7 ..)]
  unfold kernelRun1_B; dsimp only; sl_unfold_words
  rw [View.canon_unit_zero hz3]
  simp only [View.readAt_eq_ld, harg1.read_unread, harg2.read_unread, ld2, ld3]
  exact congrArg (fun a => k1_pay11 x1 a) (ld1 x0 0 (by decide) _ _)
/-- A point in between: the codes of dy. -/
theorem leaves_B_8 : (leaves_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.1 = k1_pay12 x2 (x0 (ix1 1)) := by
  unfold leaves_B; dsimp only; unfold out1_B_8
  rw [View.read_writes_eq_canon _ _ _ (fun _ => cover1_B_8 ..)]
  unfold kernelRun1_B; dsimp only; sl_unfold_words
  rw [View.canon_unit_zero hz3]
  simp only [View.readAt_eq_ld, harg1.read_unread, harg3.read_unread, ld2, ld3]
  exact congrArg (fun a => k1_pay12 x2 a) (ld1 x0 1 (by decide) _ _)
/-- A point in between: the running maxima of |x|. -/
theorem leaves_B_s0 : (leaves_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.2.2.2.1 = k1_pay15 (k1_pay14 x1) xs0 := by
  unfold leaves_B; dsimp only; unfold sout1_B_0
  rw [View.read_writes_eq_canon _ _ _ (fun _ => scover1_B_0 ..)]
  unfold kernelRun1_B; dsimp only; sl_unfold_words
  rw [View.canon_unit_zero hz2]
  simp only [View.readAt_eq_ld, harg2.read_unread, harg12.read_unread, ld2, ld3]
/-- A point in between: the running maxima of |dy|. -/
theorem leaves_B_s1 : (leaves_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.2.2.2.2 = k1_pay16 (k1_pay8 x2) xs1 := by
  unfold leaves_B; dsimp only; unfold sout1_B_1
  rw [View.read_writes_eq_canon _ _ _ (fun _ => scover1_B_1 ..)]
  unfold kernelRun1_B; dsimp only; sl_unfold_words
  rw [View.canon_unit_zero hz2]
  simp only [View.readAt_eq_ld, harg3.read_unread, harg13.read_unread, ld2, ld3]
end

section
variable (c : Dev nD) (i : grid1.Coords) (arg1 : Memref sig .tc .smem S5 .f32) (harg1 : arg1.IsWhole) (arg2 : Memref sig .tc .vmem S1x1024x1664 .bf16) (harg2 : arg2.IsWhole) (arg3 : Memref sig .tc .vmem S1x1024x1536 .bf16) (harg3 : arg3.IsWhole) (arg4 : Memref sig .tc .vmem S1664x1536 .fp8e4m3) (harg4 : arg4.IsWhole) (arg5 : Memref sig .tc .vmem S128x8x1536 .bf16) (harg5 : arg5.IsWhole) (arg6 : Memref sig .tc .vmem S128x8x1664 .bf16) (harg6 : arg6.IsWhole) (arg7 : Memref sig .tc .vmem S1664x1536 .f32) (harg7 : arg7.IsWhole) (arg8 : Memref sig .tc .vmem S1x1024x1664 .fp8e4m3) (harg8 : arg8.IsWhole) (arg9 : Memref sig .tc .vmem S1x1024x1536 .fp8e5m2) (harg9 : arg9.IsWhole) (arg10 : Memref sig .tc .vmem S1x1 .f32) (harg10 : arg10.IsWhole) (arg11 : Memref sig .tc .vmem S1x1 .f32) (harg11 : arg11.IsWhole) (arg12 : Memref sig .tc .vmem S8x1664 .bf16) (harg12 : arg12.IsWhole) (arg13 : Memref sig .tc .vmem S8x1536 .bf16) (harg13 : arg13.IsWhole) (hc0 : ¬cond1_0 i) (hc1 : cond1_1 i)
  (x0 : Vec F S5 .f32) (x1 : Vec F S1x1024x1664 .bf16) (x2 : Vec F S1x1024x1536 .bf16) (x3 : Vec F S1664x1536 .fp8e4m3) (x6 : Vec F S1664x1536 .f32) (xs0 : Vec F S8x1664 .bf16) (xs1 : Vec F S8x1536 .bf16)

/-- Last point: the block of y. -/
theorem leaves_C_4 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).1 = k1_pay17 (k1_pay9 x1 (x0 (ix1 0))) (k1_pay13 x3) (x0 (ix1 2)) := by
  unfold leaves_C; dsimp only; unfold out1_C_4
  rw [View.read_writes_eq_canon _ _ _ (fun _ => cover1_C_4 ..)]
  unfold kernelRun1_C; dsimp only; sl_unfold_words
  rw [View.canon_unit_zero hz3]
  simp only [View.readAt_eq_ld, harg1.read_unread, harg2.read_unread, harg4.read_unread, ld2, ld3]
  exact congrArg₂ (fun a b => k1_pay17 (k1_pay9 x1 a) (k1_pay13 x3) b) (ld1 x0 0 (by decide) _ _) (ld1 x0 2 (by decide) _ _)
/-- Last point: the block of dx. -/
theorem leaves_C_5 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.1 = k1_pay18 (k1_pay10 x2 (x0 (ix1 1))) (k1_pay13 x3) (x0 (ix1 3)) := by
  unfold leaves_C; dsimp only; unfold out1_C_5
  rw [View.read_writes_eq_canon _ _ _ (fun _ => cover1_C_5 ..)]
  unfold kernelRun1_C; dsimp only; sl_unfold_words
  rw [View.canon_unit_zero hz3]
  simp only [View.readAt_eq_ld, harg1.read_unread, harg3.read_unread, harg4.read_unread, ld2, ld3]
  exact congrArg₂ (fun a b => k1_pay18 (k1_pay10 x2 a) (k1_pay13 x3) b) (ld1 x0 1 (by decide) _ _) (ld1 x0 3 (by decide) _ _)
/-- Last point: dW so far. -/
theorem leaves_C_6 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.1 = k1_pay1 (k1_pay19 (k1_pay9 x1 (x0 (ix1 0))) (k1_pay10 x2 (x0 (ix1 1))) x6) (x0 (ix1 4)) := by
  unfold leaves_C; dsimp only; unfold out1_C_6
  rw [View.read_writes_eq_canon _ _ _ (fun _ => cover1_C_6 ..)]
  unfold kernelRun1_C; dsimp only; sl_unfold_words
  rw [View.canon_cons_unit_zero hz2]
  simp only [readCov2, View.readAt_eq_ld, harg1.read_unread, harg2.read_unread, harg3.read_unread, harg7.read_unread, ld2, ld3]
  exact congrArg₂ (fun (e : _ → _) c => e c) (congrArg₂ (fun a b c => k1_pay1 (k1_pay19 (k1_pay9 x1 a) (k1_pay10 x2 b) x6) c) (ld1 x0 0 (by decide) _ _) (ld1 x0 1 (by decide) _ _)) (ld1 x0 4 (by decide) _ _)
/-- Last point: the codes of x. -/
theorem leaves_C_7 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.1 = k1_pay11 x1 (x0 (ix1 0)) := by
  unfold leaves_C; dsimp only; unfold out1_C_7
  rw [View.read_writes_eq_canon _ _ _ (fun _ => cover1_C_7 ..)]
  unfold kernelRun1_C; dsimp only; sl_unfold_words
  rw [View.canon_unit_zero hz3]
  simp only [View.readAt_eq_ld, harg1.read_unread, harg2.read_unread, ld2, ld3]
  exact congrArg (fun a => k1_pay11 x1 a) (ld1 x0 0 (by decide) _ _)
/-- Last point: the codes of dy. -/
theorem leaves_C_8 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.1 = k1_pay12 x2 (x0 (ix1 1)) := by
  unfold leaves_C; dsimp only; unfold out1_C_8
  rw [View.read_writes_eq_canon _ _ _ (fun _ => cover1_C_8 ..)]
  unfold kernelRun1_C; dsimp only; sl_unfold_words
  rw [View.canon_unit_zero hz3]
  simp only [View.readAt_eq_ld, harg1.read_unread, harg3.read_unread, ld2, ld3]
  exact congrArg (fun a => k1_pay12 x2 a) (ld1 x0 1 (by decide) _ _)
/-- Last point: the largest |x|. -/
theorem leaves_C_9 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.2.1 = k1_pay2 (k1_pay15 (k1_pay14 x1) xs0) := by
  unfold leaves_C; dsimp only; unfold out1_C_9
  rw [View.read_writes_eq_canon _ _ _ (fun _ => cover1_C_9 ..)]
  unfold kernelRun1_C; dsimp only; sl_unfold_words
  rw [View.canon_unit_zero hz2]
  simp only [readCov2, View.readAt_eq_ld, harg2.read_unread, harg12.read_unread, ld2, ld3]
/-- Last point: the largest |dy|. -/
theorem leaves_C_10 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.2.2.1 = k1_pay3 (k1_pay16 (k1_pay8 x2) xs1) := by
  unfold leaves_C; dsimp only; unfold out1_C_10
  rw [View.read_writes_eq_canon _ _ _ (fun _ => cover1_C_10 ..)]
  unfold kernelRun1_C; dsimp only; sl_unfold_words
  rw [View.canon_unit_zero hz2]
  simp only [readCov2, View.readAt_eq_ld, harg3.read_unread, harg13.read_unread, ld2, ld3]
/-- Last point: the running maxima of |x|. -/
theorem leaves_C_s0 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.2.2.2.1 = k1_pay15 (k1_pay14 x1) xs0 := by
  unfold leaves_C; dsimp only; unfold sout1_C_0
  rw [View.read_writes_eq_canon _ _ _ (fun _ => scover1_C_0 ..)]
  unfold kernelRun1_C; dsimp only; sl_unfold_words
  rw [View.canon_unit_zero hz2]
  simp only [View.readAt_eq_ld, harg2.read_unread, harg12.read_unread, ld2, ld3]
/-- Last point: the running maxima of |dy|. -/
theorem leaves_C_s1 : (leaves_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x6 xs0 xs1).2.2.2.2.2.2.2.2 = k1_pay16 (k1_pay8 x2) xs1 := by
  unfold leaves_C; dsimp only; unfold sout1_C_1
  rw [View.read_writes_eq_canon _ _ _ (fun _ => scover1_C_1 ..)]
  unfold kernelRun1_C; dsimp only; sl_unfold_words
  rw [View.canon_unit_zero hz2]
  simp only [View.readAt_eq_ld, harg3.read_unread, harg13.read_unread, ld2, ld3]
end

end Cert.KernelIdeal.Linear

end
-- ==== Proof.KernelIdeal.Linear.Pays.lean ====
/-
  The values that the body of the main call stores, read at an index over the extended reals.
-/
module

public import proofs.«01_k».proof.Proof.KernelIdeal.Linear.Leaves
public import proofs.«01_k».proof.Proof.Spec

@[expose] public section

set_option maxRecDepth 16384

noncomputable section

namespace Cert.KernelIdeal.Linear

open Cert.KernelIdeal Cert.KernelIdeal.Gen
open Idealize.ShloMosaic Idealize.ShloMosaic.TcCoe Idealize.SL.Sem
open Cert.Spec

variable (x : Vec Ideal S1x1024x1664 .bf16) (d : Vec Ideal S1x1024x1536 .bf16) (w : Vec Ideal S1664x1536 .fp8e4m3)
  (s t u : Elt Ideal .f32)

/-- A block of y. -/
theorem pay_y (p : Fin 128) (r : Fin 8) (j : Fin 1536) : k1_pay17 (k1_pay9 x s) (k1_pay13 w) u (ix3 p r j) =
    (∑ k : Fin 1664, q448 (x (ix3 0 ⟨p.val * 8 + r.val, by omega⟩ k)) s * w (ix2 k j)) * u := by
  pointwise [k1_pay17, k1_pay9, k1_pay7, k1_pay13]
  rfl

/-- A block of dx. -/
theorem pay_dx (p : Fin 128) (r : Fin 8) (k : Fin 1664) : k1_pay18 (k1_pay10 d s) (k1_pay13 w) u (ix3 p r k) =
    (∑ j : Fin 1536, q57344 (d (ix3 0 ⟨p.val * 8 + r.val, by omega⟩ j)) s * w (ix2 k j)) * u := by
  pointwise [k1_pay18, k1_pay10, k1_pay8, k1_pay13]
  rfl

/-- The sum for dW takes in the point's block. -/
theorem pay_dw (v : Vec Ideal S1664x1536 .f32) (k : Fin 1664) (j : Fin 1536) :
    k1_pay19 (k1_pay9 x s) (k1_pay10 d t) v (ix2 k j) =
      v (ix2 k j) + ∑ b : Fin 1024, q448 (x (ix3 0 b k)) s * q57344 (d (ix3 0 b j)) t := by
  pointwise [k1_pay19, k1_pay9, k1_pay7, k1_pay10, k1_pay8]
  rfl

/-- The sum for dW starts from zero. -/
theorem pay_dw0 (k : Fin 1664) (j : Fin 1536) : (k1_pay6 : FVec Ideal S1664x1536 .f32) (ix2 k j) = (0 : EReal) := by
  pointwise [k1_pay6]

/-- The finished sum is scaled. -/
theorem pay_dw1 (v : Vec Ideal S1664x1536 .f32) (k : Fin 1664) (j : Fin 1536) : k1_pay1 v u (ix2 k j) = v (ix2 k j) * u := by
  pointwise [k1_pay1]

/-- The codes of x. -/
theorem pay_xq (b : Fin 1024) (k : Fin 1664) : k1_pay11 x s (ix3 0 b k) = q448 (x (ix3 0 b k)) s := by
  pointwise [k1_pay11, k1_pay9, k1_pay7]
  rfl

/-- The codes of dy. -/
theorem pay_dq (b : Fin 1024) (j : Fin 1536) : k1_pay12 d s (ix3 0 b j) = q57344 (d (ix3 0 b j)) s := by
  pointwise [k1_pay12, k1_pay10, k1_pay8]
  rfl

/-- The running maxima of |x| take in the point's block. -/
theorem pay_ax (p : Vec Ideal S8x1664 .bf16) (r : Fin 8) (k : Fin 1664) (B : EReal) :
    k1_pay15 (k1_pay14 x) p (ix2 r k) ≤ B ↔
      p (ix2 r k) ≤ B ∧ ∀ q : Fin 128, abs (x (ix3 0 ⟨q.val * 8 + r.val, by omega⟩ k)) ≤ B := by
  pointwise [k1_pay15, k1_pay14, k1_pay7]
  exact max_le_iff.trans (and_congr_right fun _ => (foldMax_le _ _ negInf_bf16 B).trans
    ⟨fun h q => h q (Finset.mem_univ q), fun h q _ => h q⟩)

/-- The running maxima of |dy| take in the point's block. -/
theorem pay_ad (p : Vec Ideal S8x1536 .bf16) (r : Fin 8) (j : Fin 1536) (B : EReal) :
    k1_pay16 (k1_pay8 d) p (ix2 r j) ≤ B ↔
      p (ix2 r j) ≤ B ∧ ∀ q : Fin 128, abs (d (ix3 0 ⟨q.val * 8 + r.val, by omega⟩ j)) ≤ B := by
  pointwise [k1_pay16, k1_pay8]
  exact max_le_iff.trans (and_congr_right fun _ => (foldMax_le _ _ negInf_bf16 B).trans
    ⟨fun h q => h q (Finset.mem_univ q), fun h q _ => h q⟩)

/-- The running maxima start from zero. -/
theorem pay_ax0 (r : Fin 8) (k : Fin 1664) : (k1_pay4 : FVec Ideal S8x1664 .bf16) (ix2 r k) = (0 : EReal) := by
  pointwise [k1_pay4]
theorem pay_ad0 (r : Fin 8) (j : Fin 1536) : (k1_pay5 : FVec Ideal S8x1536 .bf16) (ix2 r j) = (0 : EReal) := by
  pointwise [k1_pay5]

/-- The largest of the running maxima of |x|. -/
theorem pay_axm (p : Vec Ideal S8x1664 .bf16) (i : S1x1.Idx) (B : EReal) :
    k1_pay2 p i ≤ B ↔ ∀ (r : Fin 8) (k : Fin 1664), p (ix2 r k) ≤ B := by
  pointwise [k1_pay2]
  exact (foldMax_le _ _ negInf_f32 B).trans ⟨fun h r j => h (r, j) (Finset.mem_univ _), fun h q _ => h q.1 q.2⟩

/-- The largest of the running maxima of |dy|. -/
theorem pay_adm (p : Vec Ideal S8x1536 .bf16) (i : S1x1.Idx) (B : EReal) :
    k1_pay3 p i ≤ B ↔ ∀ (r : Fin 8) (j : Fin 1536), p (ix2 r j) ≤ B := by
  pointwise [k1_pay3]
  exact (foldMax_le _ _ negInf_f32 B).trans ⟨fun h r j => h (r, j) (Finset.mem_univ _), fun h q _ => h q.1 q.2⟩

end Cert.KernelIdeal.Linear

end
-- ==== Proof.KernelIdeal.Linear.Blocks.lean ====
/-
  The blocks that each point of the main call reads, in terms of the arrays, and where the blocks it writes lie.
-/
module

public import proofs.«01_k».proof.Proof.KernelIdeal.Linear.Pays

@[expose] public section

set_option maxRecDepth 16384

noncomputable section

namespace Cert.KernelIdeal.Linear

open Cert.KernelIdeal Cert.KernelIdeal.Gen
open Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b)) (c : Dev nD)

/-- The arrays that the call reads, as it finds them. -/
abbrev xArr : Vec Ideal S3x6144x1664 .bf16 := V c main_arg0
abbrev dArr : Vec Ideal S3x6144x1536 .bf16 := V c main_arg2
abbrev wArr : Vec Ideal S1664x1536 .fp8e4m3 := V c main_v88_0
abbrev sArr : Vec Ideal S5 .f32 := V c main_v97

theorem index0 : ∀ t : Fin cfg1.N, win1_0.index t (0 : Fin 1) = 0 :=
  (by decide +kernel : ∀ t : Fin grid1.N, _)
theorem index1 : ∀ t : Fin cfg1.N, win1_1.index t (0 : Fin 3) = t.val / 6 ∧ win1_1.index t (1 : Fin 3) = t.val % 6 ∧ win1_1.index t (2 : Fin 3) = 0 :=
  (by decide +kernel : ∀ t : Fin grid1.N, _)
theorem index2 : ∀ t : Fin cfg1.N, win1_2.index t (0 : Fin 3) = t.val / 6 ∧ win1_2.index t (1 : Fin 3) = t.val % 6 ∧ win1_2.index t (2 : Fin 3) = 0 :=
  (by decide +kernel : ∀ t : Fin grid1.N, _)
theorem index3 : ∀ t : Fin cfg1.N, win1_3.index t (0 : Fin 2) = 0 ∧ win1_3.index t (1 : Fin 2) = 0 :=
  (by decide +kernel : ∀ t : Fin grid1.N, _)
theorem index4 : ∀ t : Fin cfg1.N, win1_4.index t (0 : Fin 3) = t.val ∧ win1_4.index t (1 : Fin 3) = 0 ∧ win1_4.index t (2 : Fin 3) = 0 :=
  (by decide +kernel : ∀ t : Fin grid1.N, _)
theorem index5 : ∀ t : Fin cfg1.N, win1_5.index t (0 : Fin 3) = t.val ∧ win1_5.index t (1 : Fin 3) = 0 ∧ win1_5.index t (2 : Fin 3) = 0 :=
  (by decide +kernel : ∀ t : Fin grid1.N, _)
theorem index7 : ∀ t : Fin cfg1.N, win1_7.index t (0 : Fin 3) = t.val / 6 ∧ win1_7.index t (1 : Fin 3) = t.val % 6 ∧ win1_7.index t (2 : Fin 3) = 0 :=
  (by decide +kernel : ∀ t : Fin grid1.N, _)
theorem index8 : ∀ t : Fin cfg1.N, win1_8.index t (0 : Fin 3) = t.val / 6 ∧ win1_8.index t (1 : Fin 3) = t.val % 6 ∧ win1_8.index t (2 : Fin 3) = 0 :=
  (by decide +kernel : ∀ t : Fin grid1.N, _)

theorem lt18 (t : Fin cfg1.N) : t.val < 18 := lt_of_lt_of_eq t.isLt (show cfg1.N = 18 from N_1)

/-- The segment and the token that row `b` of the point's block is. -/
abbrev seg (t : Fin cfg1.N) : Fin 3 := ⟨t.val / 6, by have := lt18 t; omega⟩
abbrev tok (t : Fin cfg1.N) (b : Fin 1024) : Fin 6144 := ⟨t.val % 6 * 1024 + b.val, by have := lt18 t; omega⟩

/-- Where the blocks lie. -/
theorem emb1 (t : Fin cfg1.N) (b : Fin 1024) (k : Fin 1664) :
    (win1_1.blk t).view.emb (ix3 0 b k) = (ix3 (seg t) (tok t b) k : S3x6144x1664.Idx) := by
  obtain ⟨h0, h1, h2⟩ := index1 t
  have e0 : ((win1_1.blk t).view.emb (ix3 0 b k) 0).val = win1_1.index t (0 : Fin 3) * 1 + 1 * 0 := rfl
  have e1 : ((win1_1.blk t).view.emb (ix3 0 b k) 1).val = win1_1.index t (1 : Fin 3) * 1024 + 1 * b.val := rfl
  have e2 : ((win1_1.blk t).view.emb (ix3 0 b k) 2).val = win1_1.index t (2 : Fin 3) * 1664 + 1 * k.val := rfl
  rw [h0] at e0; rw [h1] at e1; rw [h2] at e2
  exact (eq_ix3 _).trans (congr (congrArg₂ ix3 (Fin.ext (e0.trans (by dsimp only; omega))) (Fin.ext (e1.trans (by dsimp only; omega)))) (Fin.ext (e2.trans (by omega))))
theorem emb2 (t : Fin cfg1.N) (b : Fin 1024) (k : Fin 1536) :
    (win1_2.blk t).view.emb (ix3 0 b k) = (ix3 (seg t) (tok t b) k : S3x6144x1536.Idx) := by
  obtain ⟨h0, h1, h2⟩ := index2 t
  have e0 : ((win1_2.blk t).view.emb (ix3 0 b k) 0).val = win1_2.index t (0 : Fin 3) * 1 + 1 * 0 := rfl
  have e1 : ((win1_2.blk t).view.emb (ix3 0 b k) 1).val = win1_2.index t (1 : Fin 3) * 1024 + 1 * b.val := rfl
  have e2 : ((win1_2.blk t).view.emb (ix3 0 b k) 2).val = win1_2.index t (2 : Fin 3) * 1536 + 1 * k.val := rfl
  rw [h0] at e0; rw [h1] at e1; rw [h2] at e2
  exact (eq_ix3 _).trans (congr (congrArg₂ ix3 (Fin.ext (e0.trans (by dsimp only; omega))) (Fin.ext (e1.trans (by dsimp only; omega)))) (Fin.ext (e2.trans (by omega))))
theorem emb7 (t : Fin cfg1.N) (b : Fin 1024) (k : Fin 1664) :
    (win1_7.blk t).view.emb (ix3 0 b k) = (ix3 (seg t) (tok t b) k : S3x6144x1664.Idx) := by
  obtain ⟨h0, h1, h2⟩ := index7 t
  have e0 : ((win1_7.blk t).view.emb (ix3 0 b k) 0).val = win1_7.index t (0 : Fin 3) * 1 + 1 * 0 := rfl
  have e1 : ((win1_7.blk t).view.emb (ix3 0 b k) 1).val = win1_7.index t (1 : Fin 3) * 1024 + 1 * b.val := rfl
  have e2 : ((win1_7.blk t).view.emb (ix3 0 b k) 2).val = win1_7.index t (2 : Fin 3) * 1664 + 1 * k.val := rfl
  rw [h0] at e0; rw [h1] at e1; rw [h2] at e2
  exact (eq_ix3 _).trans (congr (congrArg₂ ix3 (Fin.ext (e0.trans (by dsimp only; omega))) (Fin.ext (e1.trans (by dsimp only; omega)))) (Fin.ext (e2.trans (by omega))))
theorem emb8 (t : Fin cfg1.N) (b : Fin 1024) (k : Fin 1536) :
    (win1_8.blk t).view.emb (ix3 0 b k) = (ix3 (seg t) (tok t b) k : S3x6144x1536.Idx) := by
  obtain ⟨h0, h1, h2⟩ := index8 t
  have e0 : ((win1_8.blk t).view.emb (ix3 0 b k) 0).val = win1_8.index t (0 : Fin 3) * 1 + 1 * 0 := rfl
  have e1 : ((win1_8.blk t).view.emb (ix3 0 b k) 1).val = win1_8.index t (1 : Fin 3) * 1024 + 1 * b.val := rfl
  have e2 : ((win1_8.blk t).view.emb (ix3 0 b k) 2).val = win1_8.index t (2 : Fin 3) * 1536 + 1 * k.val := rfl
  rw [h0] at e0; rw [h1] at e1; rw [h2] at e2
  exact (eq_ix3 _).trans (congr (congrArg₂ ix3 (Fin.ext (e0.trans (by dsimp only; omega))) (Fin.ext (e1.trans (by dsimp only; omega)))) (Fin.ext (e2.trans (by omega))))
theorem emb4 (t : Fin cfg1.N) (p : Fin 128) (r : Fin 8) (k : Fin 1536) :
    (win1_4.blk t).view.emb (ix3 p r k) = (ix3 ⟨t.val * 128 + p.val, by have := lt18 t; omega⟩ r k : S2304x8x1536.Idx) := by
  obtain ⟨h0, h1, h2⟩ := index4 t
  have e0 : ((win1_4.blk t).view.emb (ix3 p r k) 0).val = win1_4.index t (0 : Fin 3) * 128 + 1 * p.val := rfl
  have e1 : ((win1_4.blk t).view.emb (ix3 p r k) 1).val = win1_4.index t (1 : Fin 3) * 8 + 1 * r.val := rfl
  have e2 : ((win1_4.blk t).view.emb (ix3 p r k) 2).val = win1_4.index t (2 : Fin 3) * 1536 + 1 * k.val := rfl
  rw [h0] at e0; rw [h1] at e1; rw [h2] at e2
  exact (eq_ix3 _).trans (congr (congrArg₂ ix3 (Fin.ext (e0.trans (by dsimp only; omega))) (Fin.ext (e1.trans (by omega)))) (Fin.ext (e2.trans (by omega))))
theorem emb5 (t : Fin cfg1.N) (p : Fin 128) (r : Fin 8) (k : Fin 1664) :
    (win1_5.blk t).view.emb (ix3 p r k) = (ix3 ⟨t.val * 128 + p.val, by have := lt18 t; omega⟩ r k : S2304x8x1664.Idx) := by
  obtain ⟨h0, h1, h2⟩ := index5 t
  have e0 : ((win1_5.blk t).view.emb (ix3 p r k) 0).val = win1_5.index t (0 : Fin 3) * 128 + 1 * p.val := rfl
  have e1 : ((win1_5.blk t).view.emb (ix3 p r k) 1).val = win1_5.index t (1 : Fin 3) * 8 + 1 * r.val := rfl
  have e2 : ((win1_5.blk t).view.emb (ix3 p r k) 2).val = win1_5.index t (2 : Fin 3) * 1664 + 1 * k.val := rfl
  rw [h0] at e0; rw [h1] at e1; rw [h2] at e2
  exact (eq_ix3 _).trans (congr (congrArg₂ ix3 (Fin.ext (e0.trans (by dsimp only; omega))) (Fin.ext (e1.trans (by omega)))) (Fin.ext (e2.trans (by omega))))

/-- The five scalars as each point reads them. -/
theorem iblk_s (t : Fin cfg1.N) (n : Fin 5) : iblk V c 0 t (ix1 n) = sArr V c (ix1 n) := by
  have e : ((win1_0.blk t).view.emb (ix1 n) 0).val = win1_0.index t (0 : Fin 1) * 5 + 1 * n.val := rfl
  rw [index0] at e
  unfold iblk
  blk_simp
  exact congrArg (sArr V c) ((eq_ix1 _).trans (congrArg ix1 (Fin.ext (e.trans (by omega)))))

/-- The blocks of x and of dy as each point reads them. -/
theorem iblk_x (t : Fin cfg1.N) (b : Fin 1024) (k : Fin 1664) : iblk V c 1 t (ix3 0 b k) = xArr V c (ix3 (seg t) (tok t b) k) := by
  unfold iblk
  blk_simp
  exact congrArg (xArr V c) (emb1 t b k)
theorem iblk_d (t : Fin cfg1.N) (b : Fin 1024) (j : Fin 1536) : iblk V c 2 t (ix3 0 b j) = dArr V c (ix3 (seg t) (tok t b) j) := by
  unfold iblk
  blk_simp
  exact congrArg (dArr V c) (emb2 t b j)

/-- The codes of the weights as each point reads them. -/
theorem iblk_w (t : Fin cfg1.N) (k : Fin 1664) (j : Fin 1536) : iblk V c 3 t (ix2 k j) = wArr V c (ix2 k j) := by
  obtain ⟨h0, h1⟩ := index3 t
  have e0 : ((win1_3.blk t).view.emb (ix2 k j) 0).val = win1_3.index t (0 : Fin 2) * 1664 + 1 * k.val := rfl
  have e1 : ((win1_3.blk t).view.emb (ix2 k j) 1).val = win1_3.index t (1 : Fin 2) * 1536 + 1 * j.val := rfl
  rw [h0] at e0; rw [h1] at e1
  unfold iblk
  blk_simp
  exact congrArg (wArr V c) ((eq_ix2 _).trans (congrArg₂ ix2 (Fin.ext (e0.trans (by omega))) (Fin.ext (e1.trans (by omega)))))

end Cert.KernelIdeal.Linear

end
-- ==== Proof.KernelIdeal.Linear.Value.lean ====
/-
  What the main call computes over the extended reals: the three products, the codes of x and dy, and the largest absolute
  values of x and dy, given by the bounds that they meet.
-/
module

public import proofs.«01_k».proof.Proof.KernelIdeal.Linear.Blocks

@[expose] public section

set_option maxRecDepth 16384

noncomputable section

namespace Cert.KernelIdeal.Linear

open Cert.KernelIdeal Cert.KernelIdeal.Gen
open Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b)) (c : Dev nD)

/-! ### Every point's blocks -/

theorem outs_y (t : Fin cfg1.N) : (outsAt1 V c t.val t.isLt).1 =
    k1_pay17 (k1_pay9 (iblk V c 1 t) (iblk V c 0 t (ix1 0))) (k1_pay13 (iblk V c 3 t)) (iblk V c 0 t (ix1 2)) := by
  have hN := lt18 t
  by_cases h0 : t.val % 18 = 0
  · rw [outsAt1_A V c t h0 (by omega)]; exact leaves_A_4 ..
  · by_cases h1 : t.val % 18 = 17
    · rw [outsAt1_C V c t h0 h1]; exact leaves_C_4 ..
    · rw [outsAt1_B V c t h0 h1]; exact leaves_B_4 ..
theorem outs_dx (t : Fin cfg1.N) : (outsAt1 V c t.val t.isLt).2.1 =
    k1_pay18 (k1_pay10 (iblk V c 2 t) (iblk V c 0 t (ix1 1))) (k1_pay13 (iblk V c 3 t)) (iblk V c 0 t (ix1 3)) := by
  have hN := lt18 t
  by_cases h0 : t.val % 18 = 0
  · rw [outsAt1_A V c t h0 (by omega)]; exact leaves_A_5 ..
  · by_cases h1 : t.val % 18 = 17
    · rw [outsAt1_C V c t h0 h1]; exact leaves_C_5 ..
    · rw [outsAt1_B V c t h0 h1]; exact leaves_B_5 ..
theorem outs_xq (t : Fin cfg1.N) : (outsAt1 V c t.val t.isLt).2.2.2.1 = k1_pay11 (iblk V c 1 t) (iblk V c 0 t (ix1 0)) := by
  have hN := lt18 t
  by_cases h0 : t.val % 18 = 0
  · rw [outsAt1_A V c t h0 (by omega)]; exact leaves_A_7 ..
  · by_cases h1 : t.val % 18 = 17
    · rw [outsAt1_C V c t h0 h1]; exact leaves_C_7 ..
    · rw [outsAt1_B V c t h0 h1]; exact leaves_B_7 ..
theorem outs_dq (t : Fin cfg1.N) : (outsAt1 V c t.val t.isLt).2.2.2.2.1 = k1_pay12 (iblk V c 2 t) (iblk V c 0 t (ix1 1)) := by
  have hN := lt18 t
  by_cases h0 : t.val % 18 = 0
  · rw [outsAt1_A V c t h0 (by omega)]; exact leaves_A_8 ..
  · by_cases h1 : t.val % 18 = 17
    · rw [outsAt1_C V c t h0 h1]; exact leaves_C_8 ..
    · rw [outsAt1_B V c t h0 h1]; exact leaves_B_8 ..

/-- The codes of x after the call. -/
theorem xq : (dat V c).arrAt 7 cfg1.N = fun i => q448 (xArr V c i) (sArr V c (ix1 0)) := by
  refine (dat V c).arrAt_eq_of_covers 7 _ (by decide +kernel) fun t hf y => ?_
  blk_simp
  rw [after1_7, outs_xq, iblk_s]
  obtain ⟨b, k, rfl⟩ : ∃ (b : Fin 1024) (k : Fin 1664), y = (ix3 0 b k : S1x1024x1664.Idx) :=
    ⟨y 1, y 2, (eq_ix3 y).trans (congrArg (fun a => ix3 a (y 1) (y 2)) (Subsingleton.elim _ _))⟩
  refine (pay_xq _ _ b k).trans ?_
  rw [iblk_x V c t b k]
  exact congrArg (fun i => q448 (xArr V c i) (sArr V c (ix1 0))) (emb7 t b k).symm

/-- The codes of dy after the call. -/
theorem dq : (dat V c).arrAt 8 cfg1.N = fun i => q57344 (dArr V c i) (sArr V c (ix1 1)) := by
  refine (dat V c).arrAt_eq_of_covers 8 _ (by decide +kernel) fun t hf y => ?_
  blk_simp
  rw [after1_8, outs_dq, iblk_s]
  obtain ⟨b, k, rfl⟩ : ∃ (b : Fin 1024) (k : Fin 1536), y = (ix3 0 b k : S1x1024x1536.Idx) :=
    ⟨y 1, y 2, (eq_ix3 y).trans (congrArg (fun a => ix3 a (y 1) (y 2)) (Subsingleton.elim _ _))⟩
  refine (pay_dq _ _ b k).trans ?_
  rw [iblk_d V c t b k]
  exact congrArg (fun i => q57344 (dArr V c i) (sArr V c (ix1 1))) (emb8 t b k).symm

/-- The segment and the token of a row of the array that holds the tokens in groups of eight. -/
abbrev segOf (p : Fin 2304) (r : Fin 8) : Fin 3 := ⟨(p.val * 8 + r.val) / 6144, by omega⟩
abbrev tokOf (p : Fin 2304) (r : Fin 8) : Fin 6144 := ⟨(p.val * 8 + r.val) % 6144, by omega⟩

/-- The products by row of that array. -/
def yRow (p : Fin 2304) (r : Fin 8) (j : Fin 1536) : EReal :=
  (∑ k : Fin 1664, q448 (xArr V c (ix3 (segOf p r) (tokOf p r) k)) (sArr V c (ix1 0)) * wArr V c (ix2 k j)) * sArr V c (ix1 2)
def dxRow (p : Fin 2304) (r : Fin 8) (k : Fin 1664) : EReal :=
  (∑ j : Fin 1536, q57344 (dArr V c (ix3 (segOf p r) (tokOf p r) j)) (sArr V c (ix1 1)) * wArr V c (ix2 k j)) * sArr V c (ix1 3)

theorem seg_eq (t : Fin cfg1.N) (p : Fin 128) (r : Fin 8) (h : t.val * 128 + p.val < 2304) : segOf ⟨t.val * 128 + p.val, h⟩ r = seg t :=
  Fin.ext (by have := lt18 t; dsimp only; omega)
theorem tok_eq (t : Fin cfg1.N) (p : Fin 128) (r : Fin 8) (h : t.val * 128 + p.val < 2304) :
    tokOf ⟨t.val * 128 + p.val, h⟩ r = tok t ⟨p.val * 8 + r.val, by omega⟩ :=
  Fin.ext (by have := lt18 t; dsimp only; omega)

/-- y after the call. -/
theorem yArr : (dat V c).arrAt 4 cfg1.N = fun i : S2304x8x1536.Idx => yRow V c (i 0) (i 1) (i 2) := by
  refine (dat V c).arrAt_eq_of_covers 4 _ (by decide +kernel) fun t hf y => ?_
  blk_simp
  rw [after1_4, outs_y, iblk_s, iblk_s]
  obtain ⟨p, r, j, rfl⟩ : ∃ (p : Fin 128) (r : Fin 8) (j : Fin 1536), y = (ix3 p r j : S128x8x1536.Idx) := ⟨y 0, y 1, y 2, eq_ix3 y⟩
  refine (pay_y _ _ _ _ p r j).trans ?_
  refine Eq.trans ?_ (congrArg (fun i : S2304x8x1536.Idx => yRow V c (i 0) (i 1) (i 2)) (emb4 t p r j).symm)
  show _ = yRow V c ⟨t.val * 128 + p.val, by have := lt18 t; omega⟩ r j
  unfold yRow
  rw [seg_eq, tok_eq]
  simp only [iblk_x, iblk_w]

/-- dx after the call. -/
theorem dxArr : (dat V c).arrAt 5 cfg1.N = fun i : S2304x8x1664.Idx => dxRow V c (i 0) (i 1) (i 2) := by
  refine (dat V c).arrAt_eq_of_covers 5 _ (by decide +kernel) fun t hf y => ?_
  blk_simp
  rw [after1_5, outs_dx, iblk_s, iblk_s]
  obtain ⟨p, r, j, rfl⟩ : ∃ (p : Fin 128) (r : Fin 8) (j : Fin 1664), y = (ix3 p r j : S128x8x1664.Idx) := ⟨y 0, y 1, y 2, eq_ix3 y⟩
  refine (pay_dx _ _ _ _ p r j).trans ?_
  refine Eq.trans ?_ (congrArg (fun i : S2304x8x1664.Idx => dxRow V c (i 0) (i 1) (i 2)) (emb5 t p r j).symm)
  show _ = dxRow V c ⟨t.val * 128 + p.val, by have := lt18 t; omega⟩ r j
  unfold dxRow
  rw [seg_eq, tok_eq]
  simp only [iblk_d, iblk_w]

/-! ### The sum for dW -/

/-- What one point adds. -/
def term (k : Fin 1664) (j : Fin 1536) (t : Fin cfg1.N) : EReal :=
  ∑ b : Fin 1024, q448 (xArr V c (ix3 (seg t) (tok t b) k)) (sArr V c (ix1 0)) * q57344 (dArr V c (ix3 (seg t) (tok t b) j)) (sArr V c (ix1 1))

/-- The body's addition at a point, from the previous sum. -/
theorem step_eq (t : Fin cfg1.N) (v : Vec Ideal S1664x1536 .f32) (k : Fin 1664) (j : Fin 1536) :
    k1_pay19 (k1_pay9 (iblk V c 1 t) (iblk V c 0 t (ix1 0))) (k1_pay10 (iblk V c 2 t) (iblk V c 0 t (ix1 1))) v (ix2 k j) =
      v (ix2 k j) + term V c k j t := by
  rw [pay_dw, iblk_s, iblk_s]
  unfold term
  simp only [iblk_x, iblk_d]

/-- Before the last point the sum is over the points so far. -/
theorem dwSum (n : Nat) (hn : n < cfg1.N) (h17 : n < 17) (k : Fin 1664) (j : Fin 1536) :
    (outsAt1 V c n hn).2.2.1 (ix2 k j) = ∑ u : Fin (n + 1), term V c k j ⟨u.val, by omega⟩ := by
  induction n with
  | zero =>
    have e : (outsAt1 V c 0 hn).2.2.1 = k1_pay19 (k1_pay9 (iblk V c 1 ⟨0, hn⟩) (iblk V c 0 ⟨0, hn⟩ (ix1 0))) (k1_pay10 (iblk V c 2 ⟨0, hn⟩) (iblk V c 0 ⟨0, hn⟩ (ix1 1))) (k1_pay6 (F := Ideal)) := by
      rw [outsAt1_A V c ⟨0, hn⟩ (Nat.zero_mod 18) (by dsimp only; omega)]; exact leaves_A_6 ..
    rw [e, step_eq, pay_dw0, zero_add]
    exact (Fin.sum_univ_one (fun u : Fin 1 => term V c k j ⟨u.val, by omega⟩)).symm
  | succ n ih =>
    have e : (outsAt1 V c (n + 1) hn).2.2.1 = k1_pay19 (k1_pay9 (iblk V c 1 ⟨n + 1, hn⟩) (iblk V c 0 ⟨n + 1, hn⟩ (ix1 0))) (k1_pay10 (iblk V c 2 ⟨n + 1, hn⟩) (iblk V c 0 ⟨n + 1, hn⟩ (ix1 1))) (outsAt1 V c n (by omega)).2.2.1 := by
      rw [outsAt1_B V c ⟨n + 1, hn⟩ (by dsimp only; omega) (by dsimp only; omega)]; exact leaves_B_6 ..
    rw [e, step_eq, ih (by omega) (by omega)]
    exact (Fin.sum_univ_castSucc (fun u : Fin (n + 1 + 1) => term V c k j ⟨u.val, by omega⟩)).symm

/-- The last point. -/
def ptLast : Fin cfg1.N := ⟨17, by decide +kernel⟩

/-- dW by element. -/
def dwElt (k : Fin 1664) (j : Fin 1536) : EReal :=
  (∑ a : Fin 3, ∑ b : Fin 6144, q448 (xArr V c (ix3 a b k)) (sArr V c (ix1 0)) * q57344 (dArr V c (ix3 a b j)) (sArr V c (ix1 1))) * sArr V c (ix1 4)

/-- The sum over the points, as the points before the last and the last. -/
theorem sum_points (f : Fin cfg1.N → EReal) :
    (∑ u : Fin (16 + 1), f ⟨u.val, by have := N_1; show u.val < grid1.N; omega⟩) + f ptLast =
      ∑ u : Fin 18, f ⟨u.val, by have := N_1; show u.val < grid1.N; omega⟩ :=
  (Fin.sum_univ_castSucc (n := 17) fun u => f ⟨u.val, by have := N_1; show u.val < grid1.N; omega⟩).symm

/-- The sum over the points of their rows is the sum over the segments and the tokens. -/
theorem sum_rows (g : Fin 3 → Fin 6144 → EReal) :
    (∑ u : Fin 18, ∑ b : Fin 1024, g ⟨u.val / 6, by omega⟩ ⟨u.val % 6 * 1024 + b.val, by omega⟩) = ∑ a : Fin 3, ∑ b : Fin 6144, g a b :=
  Fin.sum_points_lanes_congr 6 fun t b ha hl => rfl

theorem dwLast (k : Fin 1664) (j : Fin 1536) : (outsAt1 V c ptLast.val ptLast.isLt).2.2.1 (ix2 k j) = dwElt V c k j := by
  have e : (outsAt1 V c ptLast.val ptLast.isLt).2.2.1 = k1_pay1 (k1_pay19 (k1_pay9 (iblk V c 1 ptLast) (iblk V c 0 ptLast (ix1 0))) (k1_pay10 (iblk V c 2 ptLast) (iblk V c 0 ptLast (ix1 1))) (outsAt1 V c 16 (by decide +kernel)).2.2.1) (iblk V c 0 ptLast (ix1 4)) := by
    rw [outsAt1_C V c ptLast (by decide) (by decide)]; exact leaves_C_6 ..
  rw [e, pay_dw1, step_eq, dwSum V c 16 _ (by omega), iblk_s]
  unfold dwElt
  exact congrArg (· * sArr V c (ix1 4)) ((sum_points (term V c k j)).trans (sum_rows fun a b =>
    q448 (xArr V c (ix3 a b k)) (sArr V c (ix1 0)) * q57344 (dArr V c (ix3 a b j)) (sArr V c (ix1 1))))

/-- dW after the call. -/
theorem dwArr : (dat V c).arrAt 6 cfg1.N = fun i : S1664x1536.Idx => dwElt V c (i 0) (i 1) := by
  refine (dat V c).arrAt_eq_of_after_last 6 ptLast (by decide +kernel) _ fun y => ?_
  blk_simp
  rw [after1_6]
  obtain ⟨k, j, rfl⟩ : ∃ (k : Fin 1664) (j : Fin 1536), y = (ix2 k j : S1664x1536.Idx) := ⟨y 0, y 1, eq_ix2 y⟩
  exact dwLast V c k j

/-! ### The largest absolute values -/

/-- What the running maxima of |x| bound after the point `n`. -/
theorem accx_le (n : Nat) (hn : n < cfg1.N) (r : Fin 8) (k : Fin 1664) (B : EReal) :
    (outsAt1 V c n hn).2.2.2.2.2.2.2.1 (ix2 r k) ≤ B ↔ 0 ≤ B ∧
      ∀ (u : Fin cfg1.N), u.val ≤ n → ∀ q : Fin 128, abs (xArr V c (ix3 (seg u) (tok u ⟨q.val * 8 + r.val, by omega⟩) k)) ≤ B := by
  induction n with
  | zero =>
    have e : (outsAt1 V c 0 hn).2.2.2.2.2.2.2.1 = k1_pay15 (k1_pay14 (iblk V c 1 ⟨0, hn⟩)) (k1_pay4 (F := Ideal)) := by
      rw [outsAt1_A V c ⟨0, hn⟩ (Nat.zero_mod 18) (by dsimp only; omega)]; exact leaves_A_s0 ..
    rw [e, pay_ax, pay_ax0]
    simp only [iblk_x]
    exact and_congr_right fun _ => ⟨fun h u hu => by obtain rfl : u = ⟨0, hn⟩ := Fin.ext (Nat.le_zero.mp hu); exact h, fun h => h ⟨0, hn⟩ le_rfl⟩
  | succ n ih =>
    have hN : n + 1 < 18 := lt_of_lt_of_eq hn (show cfg1.N = 18 from N_1)
    have e : (outsAt1 V c (n + 1) hn).2.2.2.2.2.2.2.1 = k1_pay15 (k1_pay14 (iblk V c 1 ⟨n + 1, hn⟩)) (outsAt1 V c n (by omega)).2.2.2.2.2.2.2.1 := by
      by_cases h2 : (n + 1) % 18 = 17
      · rw [outsAt1_C V c ⟨n + 1, hn⟩ (by dsimp only; omega) h2]; exact leaves_C_s0 ..
      · rw [outsAt1_B V c ⟨n + 1, hn⟩ (by dsimp only; omega) h2]; exact leaves_B_s0 ..
    rw [e, pay_ax, ih]
    simp only [iblk_x]
    constructor
    · rintro ⟨⟨hB, h⟩, h'⟩
      refine ⟨hB, fun u hu => ?_⟩
      rcases Nat.lt_or_ge u.val (n + 1) with hu' | hu'
      · exact h u (by omega)
      · obtain rfl : u = ⟨n + 1, hn⟩ := Fin.ext (by dsimp only; omega)
        exact h'
    · exact fun h => ⟨⟨h.1, fun u hu => h.2 u (by omega)⟩, h.2 ⟨n + 1, hn⟩ le_rfl⟩

/-- What the running maxima of |dy| bound after the point `n`. -/
theorem accd_le (n : Nat) (hn : n < cfg1.N) (r : Fin 8) (j : Fin 1536) (B : EReal) :
    (outsAt1 V c n hn).2.2.2.2.2.2.2.2 (ix2 r j) ≤ B ↔ 0 ≤ B ∧
      ∀ (u : Fin cfg1.N), u.val ≤ n → ∀ q : Fin 128, abs (dArr V c (ix3 (seg u) (tok u ⟨q.val * 8 + r.val, by omega⟩) j)) ≤ B := by
  induction n with
  | zero =>
    have e : (outsAt1 V c 0 hn).2.2.2.2.2.2.2.2 = k1_pay16 (k1_pay8 (iblk V c 2 ⟨0, hn⟩)) (k1_pay5 (F := Ideal)) := by
      rw [outsAt1_A V c ⟨0, hn⟩ (Nat.zero_mod 18) (by dsimp only; omega)]; exact leaves_A_s1 ..
    rw [e, pay_ad, pay_ad0]
    simp only [iblk_d]
    exact and_congr_right fun _ => ⟨fun h u hu => by obtain rfl : u = ⟨0, hn⟩ := Fin.ext (Nat.le_zero.mp hu); exact h, fun h => h ⟨0, hn⟩ le_rfl⟩
  | succ n ih =>
    have hN : n + 1 < 18 := lt_of_lt_of_eq hn (show cfg1.N = 18 from N_1)
    have e : (outsAt1 V c (n + 1) hn).2.2.2.2.2.2.2.2 = k1_pay16 (k1_pay8 (iblk V c 2 ⟨n + 1, hn⟩)) (outsAt1 V c n (by omega)).2.2.2.2.2.2.2.2 := by
      by_cases h2 : (n + 1) % 18 = 17
      · rw [outsAt1_C V c ⟨n + 1, hn⟩ (by dsimp only; omega) h2]; exact leaves_C_s1 ..
      · rw [outsAt1_B V c ⟨n + 1, hn⟩ (by dsimp only; omega) h2]; exact leaves_B_s1 ..
    rw [e, pay_ad, ih]
    simp only [iblk_d]
    constructor
    · rintro ⟨⟨hB, h⟩, h'⟩
      refine ⟨hB, fun u hu => ?_⟩
      rcases Nat.lt_or_ge u.val (n + 1) with hu' | hu'
      · exact h u (by omega)
      · obtain rfl : u = ⟨n + 1, hn⟩ := Fin.ext (by dsimp only; omega)
        exact h'
    · exact fun h => ⟨⟨h.1, fun u hu => h.2 u (by omega)⟩, h.2 ⟨n + 1, hn⟩ le_rfl⟩

/-- The arrays of the largest absolute values after the call. -/
abbrev axArr : Vec Ideal S1x1 .f32 := (dat V c).arrAt 9 cfg1.N
abbrev adArr : Vec Ideal S1x1 .f32 := (dat V c).arrAt 10 cfg1.N

theorem axArr_eq : axArr V c = k1_pay2 (outsAt1 V c ptLast.val ptLast.isLt).2.2.2.2.2.2.2.1 := by
  refine (dat V c).arrAt_eq_of_after_last 9 ptLast (by decide +kernel) _ fun j => ?_
  blk_simp
  rw [after1_9]
  have e : (outsAt1 V c ptLast.val ptLast.isLt).2.2.2.2.2.1 = k1_pay2 (outsAt1 V c ptLast.val ptLast.isLt).2.2.2.2.2.2.2.1 := by
    rw [outsAt1_C V c ptLast (by decide) (by decide)]
    exact (leaves_C_9 ..).trans (congrArg k1_pay2 (leaves_C_s0 ..).symm)
  rw [e]
theorem adArr_eq : adArr V c = k1_pay3 (outsAt1 V c ptLast.val ptLast.isLt).2.2.2.2.2.2.2.2 := by
  refine (dat V c).arrAt_eq_of_after_last 10 ptLast (by decide +kernel) _ fun j => ?_
  blk_simp
  rw [after1_10]
  have e : (outsAt1 V c ptLast.val ptLast.isLt).2.2.2.2.2.2.1 = k1_pay3 (outsAt1 V c ptLast.val ptLast.isLt).2.2.2.2.2.2.2.2 := by
    rw [outsAt1_C V c ptLast (by decide) (by decide)]
    exact (leaves_C_10 ..).trans (congrArg k1_pay3 (leaves_C_s1 ..).symm)
  rw [e]

/-- Every segment and token is some point's row. -/
theorem row_of (a : Fin 3) (b : Fin 6144) :
    ∃ (u : Fin cfg1.N) (q : Fin 128) (r : Fin 8), u.val ≤ 17 ∧ seg u = a ∧ tok u ⟨q.val * 8 + r.val, by omega⟩ = b :=
  ⟨⟨a.val * 6 + b.val / 1024, by rw [show cfg1.N = 18 from N_1]; omega⟩, ⟨b.val % 1024 / 8, by omega⟩, ⟨b.val % 8, by omega⟩,
    by dsimp only; omega, Fin.ext (by dsimp only; omega), Fin.ext (by dsimp only; omega)⟩

/-- They meet a bound exactly when every element does in absolute value. -/
theorem ax_le (i : S1x1.Idx) (B : EReal) : axArr V c i ≤ B ↔ ∀ i : S3x6144x1664.Idx, abs (xArr V c i) ≤ B := by
  rw [axArr_eq, pay_axm]
  refine (forall_congr' fun r => forall_congr' fun k => accx_le V c _ _ r k B).trans ?_
  constructor
  · intro h i
    obtain ⟨a, b, k, rfl⟩ : ∃ (a : Fin 3) (b : Fin 6144) (k : Fin 1664), i = ix3 a b k := ⟨i 0, i 1, i 2, eq_ix3 i⟩
    obtain ⟨u, q, r, hu, rfl, rfl⟩ := row_of a b
    exact (h r k).2 u hu q
  · exact fun h r k => ⟨(abs_nonneg _).trans (h (ix3 0 0 0)), fun u _ q => h _⟩
theorem ad_le (i : S1x1.Idx) (B : EReal) : adArr V c i ≤ B ↔ ∀ i : S3x6144x1536.Idx, abs (dArr V c i) ≤ B := by
  rw [adArr_eq, pay_adm]
  refine (forall_congr' fun r => forall_congr' fun k => accd_le V c _ _ r k B).trans ?_
  constructor
  · intro h i
    obtain ⟨a, b, k, rfl⟩ : ∃ (a : Fin 3) (b : Fin 6144) (k : Fin 1536), i = ix3 a b k := ⟨i 0, i 1, i 2, eq_ix3 i⟩
    obtain ⟨u, q, r, hu, rfl, rfl⟩ := row_of a b
    exact (h r k).2 u hu q
  · exact fun h r k => ⟨(abs_nonneg _).trans (h (ix3 0 0 0)), fun u _ q => h _⟩

end Cert.KernelIdeal.Linear

end
-- ==== Proof.Scales.lean ====
/-
  The scale of one tensor from its history of largest absolute values, as the kernel's host part computes it: the
  largest value of the history, times the reciprocal of the format's largest value, gives an exponent, and the scale and
  its inverse are the powers of two of that exponent and of its negation.
-/
module

public import proofs.«01_k».proof.Proof.Gen.KernelIdeal.Launch
public import Idealize.ShloMosaic.Lib.StableHlo.RunRead

@[expose] public section

set_option maxRecDepth 16384

noncomputable section

namespace Cert.Scales

open Cert.KernelIdeal Cert.KernelIdeal.Gen
open Idealize.ShloMosaic

variable {F : FTy → Type} [FloatOps F]

/-- The powers of two from the smallest normal to the largest, by their words. -/
def powers : Vec F S255 .f32 :=
  bitcastToFloat .f32 (Host.shli (addi (broadcastInDim S255 ![] bcast_S_S255 (constantI S_ 32 1#32)) (iotaInDim S255 32 0))
    (broadcastInDim S255 ![] bcast_S_S255 (constantI S_ 32 23#32)))

/-- How many powers of two are at most the absolute value. -/
def count (v : Vec F S_ .f32) : Vec F S_ .i32 :=
  Host.reduce IntOp.addi (extui 32 (cmpf .ole (powers (F := F)) (broadcastInDim S255 ![] bcast_S_S255 (Host.absf v))) natLt_1_32)
    (constantI S_ 32 0#32) reducesTo_S255_S_d0 h_S_

/-- The exponent from that count; none of the powers, or all of them, give zero. -/
def expo (v : Vec F S_ .f32) : Vec F S_ .i32 :=
  select (ori (cmpi .eq (count v) (constantI S_ 32 0#32)) (cmpi .eq (count v) (constantI S_ 32 255#32)))
    (constantI S_ 32 0#32) (subi (count v) (constantI S_ 32 126#32))

/-- The largest value of a history. -/
def top (h : Vec F S16 .f32) : Vec F S_ .f32 := Host.reduce FloatOps.maximumf h (constant S_ .f32 0xFF800000#32) reducesTo_S16_S_d0 h_S_

/-- The scale's exponent; a history of zeros gives zero. -/
def exponent (k : BitVec 32) (h : Vec F S16 .f32) : Vec F S_ .i32 :=
  select (cmpf .oeq (top h) (constant S_ .f32 0x00000000#32)) (constantI S_ 32 0#32) (expo (mulf (top h) (constant S_ .f32 k)))

/-- The power of two of an exponent, by its word. -/
def power (e : Vec F S_ .i32) : Vec F S_ .f32 :=
  bitcastToFloat .f32 (Host.shli (minsi (maxsi (addi e (constantI S_ 32 127#32)) (constantI S_ 32 0#32)) (constantI S_ 32 255#32)) (constantI S_ 32 23#32))

/-- The scale and its inverse. -/
def scale (k : BitVec 32) (h : Vec F S16 .f32) : Vec F S_ .f32 := power (exponent k h)
def inv (k : BitVec 32) (h : Vec F S16 .f32) : Vec F S_ .f32 := power (negi (exponent k h))

end Cert.Scales

end
-- ==== Proof.KernelIdeal.Scales.lean ====
/-
  The scales that the program's host part has computed when the first call starts.
-/
module

public import proofs.«01_k».proof.Proof.Gen.KernelIdeal.Regions
public import proofs.«01_k».proof.Proof.Scales

@[expose] public section

set_option maxRecDepth 16384

noncomputable section

namespace Cert.KernelIdeal.Scales

open Cert.KernelIdeal Cert.KernelIdeal.Gen
open Idealize.ShloMosaic Idealize.ShloMosaic.TcCoe Idealize.SL.Sem
open Cert.Scales

variable {F : FTy → Type} [FloatOps F] (m : (ℓ : Loc nD τ sig) → Buf (Elt F) ℓ) (c : Dev nD)

/-- The scale of x. -/
theorem v23 : (V7 m c main_v23 : Vec F S_ .f32) = scale 0x3B124925#32 (m ((c : Thread nD τ).loc main_arg3)) := by
  after_reads_simp
  rfl

/-- Its inverse. -/
theorem v28 : (V7 m c main_v28 : Vec F S_ .f32) = inv 0x3B124925#32 (m ((c : Thread nD τ).loc main_arg3)) := by
  after_reads_simp
  rfl

/-- The scale of the weights. -/
theorem v52 : (V7 m c main_v52 : Vec F S_ .f32) = scale 0x3B124925#32 (m ((c : Thread nD τ).loc main_arg4)) := by
  after_reads_simp
  rfl

/-- Its inverse. -/
theorem v57 : (V7 m c main_v57 : Vec F S_ .f32) = inv 0x3B124925#32 (m ((c : Thread nD τ).loc main_arg4)) := by
  after_reads_simp
  rfl

/-- The scale of dy. -/
theorem v81 : (V7 m c main_v81 : Vec F S_ .f32) = scale 0x37924925#32 (m ((c : Thread nD τ).loc main_arg5)) := by
  after_reads_simp
  rfl

/-- Its inverse. -/
theorem v86 : (V7 m c main_v86 : Vec F S_ .f32) = inv 0x37924925#32 (m ((c : Thread nD τ).loc main_arg5)) := by
  after_reads_simp
  rfl

/-- The first call's operand is the inverse scale of the weights. -/
theorem v87 : (V7 m c main_v87 : Vec F S1 .f32) = shapeCast S1 (inv 0x3B124925#32 (m ((c : Thread nD τ).loc main_arg4))) shapeCasts_S_S1 := by
  after_reads_simp
  rfl

end Cert.KernelIdeal.Scales

end
-- ==== Proof.Results.lean ====
/-
  The results of the program as functions of its six arguments over the extended reals. The scales are what `Scales`
  computes from the histories; a new history is the old one without its oldest value, and the new largest absolute value.
-/
module

public import proofs.«01_k».proof.Proof.Scales
public import proofs.«01_k».proof.Proof.Spec

@[expose] public section

set_option maxRecDepth 16384

noncomputable section

namespace Cert.Results

open Cert.KernelIdeal Cert.KernelIdeal.Gen
open Idealize.ShloMosaic
open Cert.Spec Cert.Scales

/-- The reciprocals of 448 and of 57344, as words. -/
abbrev k448 : BitVec 32 := 0x3B124925#32
abbrev k57344 : BitVec 32 := 0x37924925#32

/-- The scale and the inverse scale as numbers. -/
def sc (k : BitVec 32) (h : Vec Ideal S16 .f32) : EReal := scale k h ix0
def iv (k : BitVec 32) (h : Vec Ideal S16 .f32) : EReal := inv k h ix0

variable (x : Vec Ideal S3x6144x1664 .bf16) (w : Vec Ideal S1664x1536 .f32) (d : Vec Ideal S3x6144x1536 .bf16)
  (hx hw hd : Vec Ideal S16 .f32)

/-- y, dx and dW. -/
def y : Vec Ideal S3x6144x1536 .bf16 := fun i =>
  Spec.y (fun a b k => x (ix3 a b k)) (fun k j => w (ix2 k j)) (iv k448 hx) (iv k448 hw) (sc k448 hx * sc k448 hw) (i 0) (i 1) (i 2)
def dx : Vec Ideal S3x6144x1664 .bf16 := fun i =>
  Spec.dx (fun k j => w (ix2 k j)) (fun a b j => d (ix3 a b j)) (iv k448 hw) (iv k57344 hd) (sc k57344 hd * sc k448 hw) (i 0) (i 1) (i 2)
def dw : Vec Ideal S1664x1536 .f32 := fun i =>
  Spec.dw (fun a b k => x (ix3 a b k)) (fun a b j => d (ix3 a b j)) (iv k448 hx) (iv k57344 hd) (sc k448 hx * sc k57344 hd) (i 0) (i 1)

/-- The codes of x, of the weights and of dy. -/
def xq : Vec Ideal S3x6144x1664 .fp8e4m3 := fun i => q448 (x i) (iv k448 hx)
def wq : Vec Ideal S1664x1536 .fp8e4m3 := fun i => q448 (w i) (iv k448 hw)
def dq : Vec Ideal S3x6144x1536 .fp8e5m2 := fun i => q57344 (d i) (iv k57344 hd)

/-- A new history from the old one and the largest absolute value. -/
def hist {F : FTy → Type} [FloatOps F] (h : Vec F S16 .f32) (a : Vec F S1x1 .f32) : Vec F S16 .f32 :=
  concatenate S16 0 [⟨S15, extractStridedSlice S15 ![1] h slices_S16_S15_1⟩, ⟨S1, shapeCast S1 a shapeCasts_S1x1_S1⟩] concatenates_S15_S1_S16_d0

/-- `a` holds the largest absolute value of `f`: it meets a bound exactly when every element does. -/
def IsMax {ι : Type} (a : Vec Ideal S1x1 .f32) (f : ι → EReal) : Prop := ∀ (i : S1x1.Idx) (B : EReal), a i ≤ B ↔ ∀ j, abs (f j) ≤ B

/-- There is only one. -/
theorem IsMax.unique {ι : Type} {a b : Vec Ideal S1x1 .f32} {f : ι → EReal} (ha : IsMax a f) (hb : IsMax b f) : a = b :=
  funext fun i => eq_of_forall_ge_iff fun B => (ha i B).trans (hb i B).symm

end Cert.Results

end
-- ==== Proof.KernelIdeal.Value.lean ====
/-
  What the program's result buffers hold at the return, as functions of the arguments.
-/
module

public import proofs.«01_k».proof.Proof.KernelIdeal.Whole
public import proofs.«01_k».proof.Proof.KernelIdeal.QuantiseW.Value
public import proofs.«01_k».proof.Proof.KernelIdeal.Linear.Value
public import proofs.«01_k».proof.Proof.KernelIdeal.Scales
public import proofs.«01_k».proof.Proof.Results

@[expose] public section

set_option maxRecDepth 16384

noncomputable section

namespace Cert.KernelIdeal.Value

open Cert.KernelIdeal Cert.KernelIdeal.Gen Cert.KernelIdeal.Whole
open Idealize.ShloMosaic Idealize.ShloMosaic.TcCoe Idealize.SL.Sem
open Cert.Spec Cert.Results

variable (m : (ℓ : Loc nD τ sig) → Buf (Elt Ideal) ℓ) (c : Dev nD)

/-- The arguments. -/
abbrev x : Vec Ideal S3x6144x1664 .bf16 := m ((c : Thread nD τ).loc main_arg0)
abbrev w : Vec Ideal S1664x1536 .f32 := m ((c : Thread nD τ).loc main_arg1)
abbrev d : Vec Ideal S3x6144x1536 .bf16 := m ((c : Thread nD τ).loc main_arg2)
abbrev hx : Vec Ideal S16 .f32 := m ((c : Thread nD τ).loc main_arg3)
abbrev hw : Vec Ideal S16 .f32 := m ((c : Thread nD τ).loc main_arg4)
abbrev hd : Vec Ideal S16 .f32 := m ((c : Thread nD τ).loc main_arg5)

/-! ### The first call -/

theorem w0 : QuantiseW.wArr (E0 m) c = w m c := V7_args m c main_arg1 (by decide)
theorem s0 : QuantiseW.wInv (E0 m) c = iv k448 (hw m c) := by
  show (V7 m c main_v87 : Vec Ideal S1 .f32) (ix1 0) = _
  rw [Scales.v87]
  exact congrArg (Cert.Scales.inv k448 (hw m c)) (Subsingleton.elim _ _)

/-- The codes of the weights. -/
theorem W8_wq : (W8 m c main_v88_0 : Vec Ideal S1664x1536 .fp8e4m3) = wq (w m c) (hw m c) := by
  refine (W8_arr m c 2).trans ((QuantiseW.codes (E0 m) c).trans ?_)
  rw [w0, s0]
  rfl

/-- The largest absolute weight. -/
theorem W8_amax : IsMax (W8 m c main_v88_1 : Vec Ideal S1x1 .f32) (w m c) := fun i B => by
  rw [← w0]
  exact (iff_of_eq (congrArg (fun v : Vec Ideal S1x1 .f32 => v i ≤ B) (W8_arr m c 3))).trans (QuantiseW.amax_le (E0 m) c i B)

/-! ### Between the calls -/

theorem x1 : Linear.xArr (E1 m) c = x m c :=
  (W9_of m c main_arg0 (by decide)).trans ((W8_of m c main_arg0 (by decide)).trans (V7_args m c main_arg0 (by decide)))
theorem d1 : Linear.dArr (E1 m) c = d m c :=
  (W9_of m c main_arg2 (by decide)).trans ((W8_of m c main_arg2 (by decide)).trans (V7_args m c main_arg2 (by decide)))
theorem w1 : Linear.wArr (E1 m) c = wq (w m c) (hw m c) := (W9_of m c main_v88_0 (by decide)).trans (W8_wq m c)

/-- A scale or an inverse scale crosses the first call. -/
theorem W8_scale (r : Ref sig .tc) (h : ∀ w, Pipeline.arrRef spec0 w ≠ r) : W8 m c r = V7 m c r := W8_of_ne m c r h

/-- The second call's five scalar operands side by side. -/
def operands {F : FTy → Type} [FloatOps F] (a b e f g : Vec F S_ .f32) : Vec F S5 .f32 :=
  concatenate S5 0 [⟨S1, broadcastInDim S1 ![] bcast_S_S1 a⟩, ⟨S1, broadcastInDim S1 ![] bcast_S_S1 b⟩,
    ⟨S1, broadcastInDim S1 ![] bcast_S_S1 e⟩, ⟨S1, broadcastInDim S1 ![] bcast_S_S1 f⟩,
    ⟨S1, broadcastInDim S1 ![] bcast_S_S1 g⟩] concatenates_S1_S1_S1_S1_S1_S5_d0

theorem operands0 (a b e f g : Vec Ideal S_ .f32) : operands a b e f g (ix1 0) = a ix0 := by
  pointwise [operands]
theorem operands1 (a b e f g : Vec Ideal S_ .f32) : operands a b e f g (ix1 1) = b ix0 := by
  pointwise [operands]
theorem operands2 (a b e f g : Vec Ideal S_ .f32) : operands a b e f g (ix1 2) = e ix0 := by
  pointwise [operands]
theorem operands3 (a b e f g : Vec Ideal S_ .f32) : operands a b e f g (ix1 3) = f ix0 := by
  pointwise [operands]
theorem operands4 (a b e f g : Vec Ideal S_ .f32) : operands a b e f g (ix1 4) = g ix0 := by
  pointwise [operands]

/-- The scalars the first call leaves alone. -/
theorem W8_v23 : (W8 m c main_v23 : Vec Ideal S_ .f32) = Cert.Scales.scale k448 (hx m c) := (W8_scale m c _ (by decide)).trans (Scales.v23 m c)
theorem W8_v28 : (W8 m c main_v28 : Vec Ideal S_ .f32) = Cert.Scales.inv k448 (hx m c) := (W8_scale m c _ (by decide)).trans (Scales.v28 m c)
theorem W8_v52 : (W8 m c main_v52 : Vec Ideal S_ .f32) = Cert.Scales.scale k448 (hw m c) := (W8_scale m c _ (by decide)).trans (Scales.v52 m c)
theorem W8_v81 : (W8 m c main_v81 : Vec Ideal S_ .f32) = Cert.Scales.scale k57344 (hd m c) := (W8_scale m c _ (by decide)).trans (Scales.v81 m c)
theorem W8_v86 : (W8 m c main_v86 : Vec Ideal S_ .f32) = Cert.Scales.inv k57344 (hd m c) := (W8_scale m c _ (by decide)).trans (Scales.v86 m c)

theorem W9_v97 : (W9 m c main_v97 : Vec Ideal S5 .f32) = operands (W8 m c main_v28) (W8 m c main_v86)
    (mulf (F := Ideal) (φ := .f32) (W8 m c main_v23 : Vec Ideal S_ .f32) (W8 m c main_v52 : Vec Ideal S_ .f32))
    (mulf (F := Ideal) (φ := .f32) (W8 m c main_v81 : Vec Ideal S_ .f32) (W8 m c main_v52 : Vec Ideal S_ .f32))
    (mulf (F := Ideal) (φ := .f32) (W8 m c main_v23 : Vec Ideal S_ .f32) (W8 m c main_v81 : Vec Ideal S_ .f32)) := by
  unfold W9
  after_reads_simp
  rfl

/-- What the second call finds in them. -/
theorem s1 : Linear.sArr (E1 m) c = operands (Cert.Scales.inv k448 (hx m c)) (Cert.Scales.inv k57344 (hd m c))
    (mulf (Cert.Scales.scale k448 (hx m c)) (Cert.Scales.scale k448 (hw m c)))
    (mulf (Cert.Scales.scale k57344 (hd m c)) (Cert.Scales.scale k448 (hw m c)))
    (mulf (Cert.Scales.scale k448 (hx m c)) (Cert.Scales.scale k57344 (hd m c))) := by
  refine (W9_v97 m c).trans ?_
  rw [W8_v23, W8_v28, W8_v52, W8_v81, W8_v86]

theorem s1_0 : Linear.sArr (E1 m) c (ix1 0) = iv k448 (hx m c) := by rw [s1]; exact operands0 _ _ _ _ _
theorem s1_1 : Linear.sArr (E1 m) c (ix1 1) = iv k57344 (hd m c) := by rw [s1]; exact operands1 _ _ _ _ _
theorem s1_2 : Linear.sArr (E1 m) c (ix1 2) = sc k448 (hx m c) * sc k448 (hw m c) := by rw [s1]; exact operands2 _ _ _ _ _
theorem s1_3 : Linear.sArr (E1 m) c (ix1 3) = sc k57344 (hd m c) * sc k448 (hw m c) := by rw [s1]; exact operands3 _ _ _ _ _
theorem s1_4 : Linear.sArr (E1 m) c (ix1 4) = sc k448 (hx m c) * sc k57344 (hd m c) := by rw [s1]; exact operands4 _ _ _ _ _

/-! ### The second call -/

theorem yRow1 (p : Fin 2304) (r : Fin 8) (j : Fin 1536) : Linear.yRow (E1 m) c p r j =
    y (x m c) (w m c) (hx m c) (hw m c) (ix3 (Linear.segOf p r) (Linear.tokOf p r) j) := by
  unfold Linear.yRow
  rw [x1, w1, s1_0, s1_2]
  rfl
theorem dxRow1 (p : Fin 2304) (r : Fin 8) (k : Fin 1664) : Linear.dxRow (E1 m) c p r k =
    dx (w m c) (d m c) (hw m c) (hd m c) (ix3 (Linear.segOf p r) (Linear.tokOf p r) k) := by
  unfold Linear.dxRow
  rw [d1, w1, s1_1, s1_3]
  rfl
theorem W10_dw : (W10 m c main_v98_2 : Vec Ideal S1664x1536 .f32) = dw (x m c) (d m c) (hx m c) (hd m c) := by
  refine (W10_arr m c 6).trans ((Linear.dwArr (E1 m) c).trans (funext fun i => ?_))
  unfold Linear.dwElt
  rw [x1, d1, s1_0, s1_1, s1_4]
  rfl
theorem W10_xq : (W10 m c main_v98_3 : Vec Ideal S3x6144x1664 .fp8e4m3) = xq (x m c) (hx m c) := by
  refine (W10_arr m c 7).trans ((Linear.xq (E1 m) c).trans ?_)
  rw [x1, s1_0]
  rfl
theorem W10_dq : (W10 m c main_v98_4 : Vec Ideal S3x6144x1536 .fp8e5m2) = dq (d m c) (hd m c) := by
  refine (W10_arr m c 8).trans ((Linear.dq (E1 m) c).trans ?_)
  rw [d1, s1_1]
  rfl
theorem W10_ax : IsMax (W10 m c main_v98_5 : Vec Ideal S1x1 .f32) (x m c) := fun i B => by
  rw [← x1]
  exact (iff_of_eq (congrArg (fun v : Vec Ideal S1x1 .f32 => v i ≤ B) (W10_arr m c 9))).trans (Linear.ax_le (E1 m) c i B)
theorem W10_ad : IsMax (W10 m c main_v98_6 : Vec Ideal S1x1 .f32) (d m c) := fun i B => by
  rw [← d1]
  exact (iff_of_eq (congrArg (fun v : Vec Ideal S1x1 .f32 => v i ≤ B) (W10_arr m c 10))).trans (Linear.ad_le (E1 m) c i B)

/-- What the second call leaves alone. -/
theorem W10_aw : IsMax (W10 m c main_v88_1 : Vec Ideal S1x1 .f32) (w m c) := fun i B =>
  (iff_of_eq (congrArg (fun v : Vec Ideal S1x1 .f32 => v i ≤ B)
    ((W10_of m c main_v88_1 (by decide)).trans (W9_of m c main_v88_1 (by decide))))).trans (W8_amax m c i B)
theorem W10_wq : (W10 m c main_v88_0 : Vec Ideal S1664x1536 .fp8e4m3) = wq (w m c) (hw m c) :=
  (W10_of m c main_v88_0 (by decide)).trans (w1 m c)

/-! ### The result buffers -/

/-- A row of the array that holds the tokens in groups of eight, by its segment and token. -/
theorem shapeCast_rows {α : Type} {n : Nat} (v : (⟨3, ![2304, 8, n]⟩ : Shape).Idx → α)
    (h : (⟨3, ![2304, 8, n]⟩ : Shape).ShapeCasts ⟨3, ![3, 6144, n]⟩) (a : Fin 3) (b : Fin 6144) (j : Fin n) :
    shapeCast ⟨3, ![3, 6144, n]⟩ v h (ix3 a b j) =
      v (ix3 ⟨(a.val * 6144 + b.val) / 8, by omega⟩ ⟨(a.val * 6144 + b.val) % 8, by omega⟩ j) := by
  refine shapeCast_apply v h _ _ ?_
  rw [Shape.rowMajor_val_three, Shape.rowMajor_val_three]
  show ((a.val * 6144 + b.val) / 8 * 8 + (a.val * 6144 + b.val) % 8) * n + j.val = (a.val * 6144 + b.val) * n + j.val
  rw [Nat.div_add_mod']

theorem seg_row (a : Fin 3) (b : Fin 6144) (h h') :
    Linear.segOf ⟨(a.val * 6144 + b.val) / 8, h⟩ ⟨(a.val * 6144 + b.val) % 8, h'⟩ = a := Fin.ext (by dsimp only; omega)
theorem tok_row (a : Fin 3) (b : Fin 6144) (h h') :
    Linear.tokOf ⟨(a.val * 6144 + b.val) / 8, h⟩ ⟨(a.val * 6144 + b.val) % 8, h'⟩ = b := Fin.ext (by dsimp only; omega)

theorem W11_y : (W11 m c main_v108 : Vec Ideal S3x6144x1536 .bf16) = y (x m c) (w m c) (hx m c) (hw m c) := by
  have e : (W11 m c main_v108 : Vec Ideal S3x6144x1536 .bf16) =
      shapeCast S3x6144x1536 (W10 m c main_v98_0 : Vec Ideal S2304x8x1536 .bf16) shapeCasts_S2304x8x1536_S3x6144x1536 := by
    unfold W11
    after_reads_simp
    rfl
  have e' : (W10 m c main_v98_0 : Vec Ideal S2304x8x1536 .bf16) = fun i => y (x m c) (w m c) (hx m c) (hw m c)
      (ix3 (Linear.segOf (i 0) (i 1)) (Linear.tokOf (i 0) (i 1)) (i 2)) :=
    (W10_arr m c 4).trans ((Linear.yArr (E1 m) c).trans (funext fun i => yRow1 m c _ _ _))
  rw [e, e']
  funext i
  obtain ⟨a, b, j, rfl⟩ : ∃ (a : Fin 3) (b : Fin 6144) (j : Fin 1536), i = (ix3 a b j : S3x6144x1536.Idx) := ⟨i 0, i 1, i 2, eq_ix3 i⟩
  exact (shapeCast_rows _ _ a b j).trans (congrArg₂ (fun a b => y (x m c) (w m c) (hx m c) (hw m c) (ix3 a b j)) (seg_row a b _ _) (tok_row a b _ _))

theorem W11_dx : (W11 m c main_v109 : Vec Ideal S3x6144x1664 .bf16) = dx (w m c) (d m c) (hw m c) (hd m c) := by
  have e : (W11 m c main_v109 : Vec Ideal S3x6144x1664 .bf16) =
      shapeCast S3x6144x1664 (W10 m c main_v98_1 : Vec Ideal S2304x8x1664 .bf16) shapeCasts_S2304x8x1664_S3x6144x1664 := by
    unfold W11
    after_reads_simp
    rfl
  have e' : (W10 m c main_v98_1 : Vec Ideal S2304x8x1664 .bf16) = fun i => dx (w m c) (d m c) (hw m c) (hd m c)
      (ix3 (Linear.segOf (i 0) (i 1)) (Linear.tokOf (i 0) (i 1)) (i 2)) :=
    (W10_arr m c 5).trans ((Linear.dxArr (E1 m) c).trans (funext fun i => dxRow1 m c _ _ _))
  rw [e, e']
  funext i
  obtain ⟨a, b, j, rfl⟩ : ∃ (a : Fin 3) (b : Fin 6144) (j : Fin 1664), i = (ix3 a b j : S3x6144x1664.Idx) := ⟨i 0, i 1, i 2, eq_ix3 i⟩
  exact (shapeCast_rows _ _ a b j).trans (congrArg₂ (fun a b => dx (w m c) (d m c) (hw m c) (hd m c) (ix3 a b j)) (seg_row a b _ _) (tok_row a b _ _))

theorem W11_dw : (W11 m c main_v98_2 : Vec Ideal S1664x1536 .f32) = dw (x m c) (d m c) (hx m c) (hd m c) :=
  (W11_of m c main_v98_2 (by decide)).trans (W10_dw m c)
theorem W11_xq : (W11 m c main_v98_3 : Vec Ideal S3x6144x1664 .fp8e4m3) = xq (x m c) (hx m c) :=
  (W11_of m c main_v98_3 (by decide)).trans (W10_xq m c)
theorem W11_dq : (W11 m c main_v98_4 : Vec Ideal S3x6144x1536 .fp8e5m2) = dq (d m c) (hd m c) :=
  (W11_of m c main_v98_4 (by decide)).trans (W10_dq m c)
theorem W11_wq : (W11 m c main_v88_0 : Vec Ideal S1664x1536 .fp8e4m3) = wq (w m c) (hw m c) :=
  (W11_of m c main_v88_0 (by decide)).trans (W10_wq m c)

/-- A buffer that neither call writes to, nor the lines between and after them. -/
theorem W11_early (r : Ref sig .tc) (h2 : r ∉ hostOps2_W) (h1 : r ∉ hostOps1_W) (a1 : ∀ w, Pipeline.arrRef spec1 w ≠ r)
    (a0 : ∀ w, Pipeline.arrRef spec0 w ≠ r) : W11 m c r = V7 m c r :=
  (W11_of m c r h2).trans ((W10_of_ne m c r a1).trans ((W9_of m c r h1).trans (W8_of_ne m c r a0)))

theorem W11_xs : (W11 m c main_v23 : Vec Ideal S_ .f32) = Cert.Scales.scale k448 (hx m c) :=
  (W11_early m c main_v23 (by decide) (by decide) (by decide) (by decide)).trans (Scales.v23 m c)
theorem W11_ws : (W11 m c main_v52 : Vec Ideal S_ .f32) = Cert.Scales.scale k448 (hw m c) :=
  (W11_early m c main_v52 (by decide) (by decide) (by decide) (by decide)).trans (Scales.v52 m c)
theorem W11_ds : (W11 m c main_v81 : Vec Ideal S_ .f32) = Cert.Scales.scale k57344 (hd m c) :=
  (W11_early m c main_v81 (by decide) (by decide) (by decide) (by decide)).trans (Scales.v81 m c)

/-- An argument as the lines after the second call find it. -/
theorem W10_args (r : Ref sig .tc) (ha : r ∈ argRefs) (h2 : r ∉ hostOps2_W) : W10 m c r = m ((c : Thread nD τ).loc r) :=
  (W11_of m c r h2).symm.trans (W11_args m c r ha)

theorem W11_hx : (W11 m c main_v101 : Vec Ideal S16 .f32) = hist (hx m c) (W10 m c main_v98_5) := by
  rw [show hx m c = (W10 m c main_arg3 : Vec Ideal S16 .f32) from (W10_args m c main_arg3 (by decide) (by decide)).symm]
  unfold W11
  after_reads_simp
  rfl
theorem W11_hw : (W11 m c main_v104 : Vec Ideal S16 .f32) = hist (hw m c) (W10 m c main_v88_1) := by
  rw [show hw m c = (W10 m c main_arg4 : Vec Ideal S16 .f32) from (W10_args m c main_arg4 (by decide) (by decide)).symm]
  unfold W11
  after_reads_simp
  rfl
theorem W11_hd : (W11 m c main_v107 : Vec Ideal S16 .f32) = hist (hd m c) (W10 m c main_v98_6) := by
  rw [show hd m c = (W10 m c main_arg5 : Vec Ideal S16 .f32) from (W10_args m c main_arg5 (by decide) (by decide)).symm]
  unfold W11
  after_reads_simp
  rfl

/-- The run: what the results hold at the return, and the arguments unchanged. -/
theorem results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v108) = y (x m c) (w m c) (hx m c) (hw m c)
      ∧ r.2.mem ((c.tc : Thread nD τ).loc main_v109) = dx (w m c) (d m c) (hw m c) (hd m c)
      ∧ r.2.mem ((c.tc : Thread nD τ).loc main_v98_2) = dw (x m c) (d m c) (hx m c) (hd m c)
      ∧ r.2.mem ((c.tc : Thread nD τ).loc main_v101) = hist (hx m c) (W10 m c main_v98_5)
      ∧ r.2.mem ((c.tc : Thread nD τ).loc main_v104) = hist (hw m c) (W10 m c main_v88_1)
      ∧ r.2.mem ((c.tc : Thread nD τ).loc main_v107) = hist (hd m c) (W10 m c main_v98_6)
      ∧ r.2.mem ((c.tc : Thread nD τ).loc main_v98_3) = xq (x m c) (hx m c)
      ∧ r.2.mem ((c.tc : Thread nD τ).loc main_v23) = Cert.Scales.scale k448 (hx m c)
      ∧ r.2.mem ((c.tc : Thread nD τ).loc main_v88_0) = wq (w m c) (hw m c)
      ∧ r.2.mem ((c.tc : Thread nD τ).loc main_v52) = Cert.Scales.scale k448 (hw m c)
      ∧ r.2.mem ((c.tc : Thread nD τ).loc main_v98_4) = dq (d m c) (hd m c)
      ∧ r.2.mem ((c.tc : Thread nD τ).loc main_v81) = Cert.Scales.scale k57344 (hd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c _ (mem_uc main_v108 (by decide))).trans (W11_y m c),
     (h.1 c _ (mem_uc main_v109 (by decide))).trans (W11_dx m c),
     (h.1 c _ (mem_uc main_v98_2 (by decide))).trans (W11_dw m c),
     (h.1 c _ (mem_uc main_v101 (by decide))).trans (W11_hx m c),
     (h.1 c _ (mem_uc main_v104 (by decide))).trans (W11_hw m c),
     (h.1 c _ (mem_uc main_v107 (by decide))).trans (W11_hd m c),
     (h.1 c _ (mem_uc main_v98_3 (by decide))).trans (W11_xq m c),
     (h.1 c _ (mem_uc main_v23 (by decide))).trans (W11_xs m c),
     (h.1 c _ (mem_uc main_v88_0 (by decide))).trans (W11_wq m c),
     (h.1 c _ (mem_uc main_v52 (by decide))).trans (W11_ws m c),
     (h.1 c _ (mem_uc main_v98_4 (by decide))).trans (W11_dq m c),
     (h.1 c _ (mem_uc main_v81 (by decide))).trans (W11_ds m c),
     (h.1 c _ (mem_uc main_arg0 (by decide))).trans (W11_args m c main_arg0 (by decide)),
     (h.1 c _ (mem_uc main_arg1 (by decide))).trans (W11_args m c main_arg1 (by decide)),
     (h.1 c _ (mem_uc main_arg2 (by decide))).trans (W11_args m c main_arg2 (by decide)),
     (h.1 c _ (mem_uc main_arg3 (by decide))).trans (W11_args m c main_arg3 (by decide)),
     (h.1 c _ (mem_uc main_arg4 (by decide))).trans (W11_args m c main_arg4 (by decide)),
     (h.1 c _ (mem_uc main_arg5 (by decide))).trans (W11_args m c main_arg5 (by decide))⟩) (run m ρ)

end Cert.KernelIdeal.Value

end
-- ==== Proof.Powers.lean ====
/-
  The powers of two of single precision as extended reals: the word with biased exponent `j` and fraction zero, for `j`
  from 0 to 255. The first is zero and the last is infinity, they grow with `j`, and so a value splits them in two: those
  at most the value are the ones below some count.
-/
module

public import Idealize.ShloMosaic.PureOps
public import Idealize.ShloMosaic.PureOps.Ideal.Laws

@[expose] public section

set_option maxRecDepth 16384

noncomputable section

namespace Cert.Powers

open Idealize.ShloMosaic

/-- The word of biased exponent `j`. -/
abbrev word (j : Nat) : BitVec 32 := BitVec.ofNat 32 (j * 8388608)

/-- The value of that word. -/
def P (j : Nat) : EReal := Ideal.ofBits .f32 (word j)

theorem fields : ∀ j : Fin 256, ((word j).extractLsb' 31 1 == 1#1) = false ∧ ((word j).extractLsb' 23 8).toNat = j.val
    ∧ ((word j).extractLsb' 0 23).toNat = 0 := by decide +kernel

theorem P_zero : P 0 = 0 := by
  obtain ⟨h1, h2, h3⟩ := fields 0
  change ((word 0).extractLsb' 31 1 == 1#1) = false at h1
  change ((word 0).extractLsb' 23 8).toNat = 0 at h2
  change ((word 0).extractLsb' 0 23).toNat = 0 at h3
  simp [P, Ideal.ofBits, Ideal.ieee, h1, h2, h3]

theorem P_top : P 255 = ⊤ := by
  obtain ⟨h1, h2, h3⟩ := fields 255
  change ((word 255).extractLsb' 31 1 == 1#1) = false at h1
  change ((word 255).extractLsb' 23 8).toNat = 255 at h2
  change ((word 255).extractLsb' 0 23).toNat = 0 at h3
  simp [P, Ideal.ofBits, Ideal.ieee, h1, h2, h3]

theorem P_mid (j : Nat) (h0 : 0 < j) (h : j < 255) : P j = (((8388608 : ℝ) * (2 : ℝ) ^ ((j : Int) - 127 - 23) : ℝ) : EReal) := by
  obtain ⟨h1, h2, h3⟩ := fields ⟨j, by omega⟩
  change ((word j).extractLsb' 31 1 == 1#1) = false at h1
  change ((word j).extractLsb' 23 8).toNat = j at h2
  change ((word j).extractLsb' 0 23).toNat = 0 at h3
  have a : j ≠ 255 := by omega
  have b : j ≠ 0 := by omega
  simp [P, Ideal.ofBits, Ideal.ieee, h1, h2, h3, a, b]

theorem P_pos (j : Nat) (h0 : 0 < j) (h : j ≤ 255) : 0 < P j := by
  rcases Nat.lt_or_eq_of_le h with h | rfl
  · rw [P_mid j h0 h]
    exact EReal.coe_pos.2 (by positivity)
  · rw [P_top]
    exact EReal.zero_lt_top

theorem P_nonneg (j : Nat) (h : j ≤ 255) : 0 ≤ P j := by
  rcases Nat.eq_zero_or_pos j with rfl | h0
  · exact P_zero.ge
  · exact (P_pos j h0 h).le

theorem P_mono {i j : Nat} (hij : i ≤ j) (h : j ≤ 255) : P i ≤ P j := by
  rcases Nat.eq_zero_or_pos i with rfl | h0
  · exact P_zero.trans_le (P_nonneg j h)
  rcases Nat.lt_or_eq_of_le h with h | rfl
  · rw [P_mid i h0 (by omega), P_mid j (by omega) h]
    refine EReal.coe_le_coe_iff.2 (mul_le_mul_of_nonneg_left (zpow_le_zpow_right₀ (by norm_num) (by omega)) (by positivity))
  · rw [P_top]
    exact le_top

/-- The powers at most a value are those below a count. -/
theorem split (v : EReal) : ∃ n, n ≤ 255 ∧ ∀ j, j < 255 → (P (j + 1) ≤ v ↔ j < n) := by
  classical
  have ex : ∃ n, 255 ≤ n ∨ v < P (n + 1) := ⟨255, .inl le_rfl⟩
  refine ⟨Nat.find ex, Nat.find_le (.inl le_rfl), fun j hj => ⟨fun h => ?_, fun h => ?_⟩⟩
  · by_contra hn
    rcases Nat.find_spec ex with h' | h'
    · omega
    · exact absurd (h'.trans_le (P_mono (by omega) (by omega))) (not_lt.2 h)
  · have := Nat.find_min ex h
    exact not_lt.1 fun h => this (.inr h)

end Cert.Powers

end
-- ==== Proof.ReferenceIdeal.Intervals.lean ====
/-
  The scale of one tensor from its history as the reference computes it: the interval between neighbouring powers of two
  that holds the largest value of the history times the reciprocal of the format's largest value gives the scale, its
  upper end, and the inverse, read from a second table. Over the extended reals both are what counting the powers gives.
-/
module

public import proofs.«01_k».proof.Proof.Gen.ReferenceIdeal
public import proofs.«01_k».proof.Proof.Scales
public import proofs.«01_k».proof.Proof.Powers
public import proofs.«01_k».proof.Proof.Spec

@[expose] public section

set_option maxRecDepth 16384

noncomputable section

namespace Cert.ReferenceIdeal.Intervals

open Cert.ReferenceIdeal Cert.ReferenceIdeal.Gen
open Idealize.ShloMosaic
open Cert.Scales (top)

section Defs
variable {F : FTy → Type} [FloatOps F]

/-- The powers of two, the next powers, and the inverses of the next powers. -/
def lows : Vec F S254 .f32 := fun i => FloatOps.ofBits .f32 (lit0 (S254.rowMajor i))
def nexts : Vec F S254 .f32 := fun i => FloatOps.ofBits .f32 (lit1 (S254.rowMajor i))
def inverses : Vec F S254 .f32 := fun i => FloatOps.ofBits .f32 (lit2 (S254.rowMajor i))

/-- The value whose interval is sought. -/
def value (k : BitVec 32) (h : Vec F S16 .f32) : Vec F S_ .f32 := Host.absf (mulf (top h) (constant S_ .f32 k))

/-- The intervals that hold it. -/
def inside (v : Vec F S_ .f32) : Vec F S254 .i1 :=
  andi (cmpf .oge (broadcastInDim S254 ![] bcast_S_S254 v) lows) (cmpf .olt (broadcastInDim S254 ![] bcast_S_S254 v) nexts)

/-- A table's value there. -/
def pick (t : Vec F S254 .f32) (v : Vec F S_ .f32) : Vec F S_ .f32 :=
  Host.reduce FloatOps.maximumf (select (inside v) t (broadcastInDim S254 ![] bcast_S_S254 (constant S_ .f32 0x00000000#32)))
    (constant S_ .f32 0xFF800000#32) reducesTo_S254_S_d0 h_S_

/-- Whether there is one, and the history's largest value is not zero. -/
def normal (k : BitVec 32) (h : Vec F S16 .f32) : Vec F S_ .i1 :=
  andi (cmpf .une (top h) (constant S_ .f32 0x00000000#32)) (cmpf .ogt (pick nexts (value k h)) (constant S_ .f32 0x00000000#32))

/-- The scale and its inverse. -/
def scale (k : BitVec 32) (h : Vec F S16 .f32) : Vec F S_ .f32 :=
  select (normal k h) (pick nexts (value k h)) (constant S_ .f32 0x3F800000#32)
def inv (k : BitVec 32) (h : Vec F S16 .f32) : Vec F S_ .f32 :=
  select (normal k h) (pick inverses (value k h)) (constant S_ .f32 0x3F800000#32)

end Defs

/-! ### The tables -/

open Cert.Powers

theorem lit0_eq : ∀ i : Fin 254, lit0 i = word (i.val + 1) := by decide +kernel
theorem lit1_eq : ∀ i : Fin 254, lit1 i = word (i.val + 2) := by decide +kernel
theorem lit2_eq : ∀ i : Fin 254, lit2 i = word (252 - i.val) := by decide +kernel

theorem row (i : Fin 254) : S254.rowMajor (ix1 i) = i := Fin.ext (Shape.rowMajor_val_one (ix1 i))

theorem lows_apply (i : Fin 254) : lows (F := Ideal) (ix1 i) = P (i.val + 1) :=
  congrArg (Ideal.ofBits .f32) ((congrArg lit0 (row i)).trans (lit0_eq i))
theorem nexts_apply (i : Fin 254) : nexts (F := Ideal) (ix1 i) = P (i.val + 2) :=
  congrArg (Ideal.ofBits .f32) ((congrArg lit1 (row i)).trans (lit1_eq i))
theorem inverses_apply (i : Fin 254) : inverses (F := Ideal) (ix1 i) = P (252 - i.val) :=
  congrArg (Ideal.ofBits .f32) ((congrArg lit2 (row i)).trans (lit2_eq i))

/-! ### Counting the powers -/

theorem shifted : ∀ i : Fin 255, IntOp.shli .host (IntOp.addi 1#32 (BitVec.ofNat 32 i.val)) 23#32 = word (i.val + 1) := by decide +kernel

theorem powers_apply (i : Fin 255) : Cert.Scales.powers (F := Ideal) (ix1 i) = P (i.val + 1) := by
  refine Eq.trans ?_ (congrArg (Ideal.ofBits .f32) (shifted i))
  rfl

theorem sum_ones : ∀ n : Fin 256, (List.finRange 255).foldl
    (fun (r : BitVec 32) i => IntOp.addi r (BitVec.ofNat 32 (if i.val < n.val then 1 else 0))) 0#32 = BitVec.ofNat 32 n.val := by decide +kernel

theorem row255 (i : Fin 255) : Cert.KernelIdeal.S255.rowMajor.symm i = ix1 i :=
  (Equiv.symm_apply_eq _).2 (Fin.ext (Shape.rowMajor_val_one (ix1 i)).symm)

/-- A scalar spread over an array. -/
theorem spread {α : Type} {t : Shape} (h : S_.BroadcastsInDim t (![] : Fin 0 → Fin t.rank)) (x : S_.Idx → α) (i : t.Idx) :
    broadcastInDim t ![] h x i = x ix0 := congrArg x (funext fun a => a.elim0)

/-- `n` splits the powers at `u`: those at most `u` are the first `n`. -/
def Splits (u : EReal) (n : Nat) : Prop := ∀ j, j < 255 → (P (j + 1) ≤ u ↔ j < n)

theorem count_eq (v : Vec Ideal S_ .f32) (n : Nat) (hn : n ≤ 255) (hs : Splits (Host.absf (F := Ideal) (φ := .f32) v ix0) n) :
    Cert.Scales.count v ix0 = BitVec.ofNat 32 n := by
  unfold Cert.Scales.count
  rw [Host.reduce_eq_foldl, List.filter_eq_self.2 fun i _ => decide_eq_true (funext fun a => a.elim0), List.foldl_map]
  refine Eq.trans ?_ (sum_ones ⟨n, by omega⟩)
  refine congrArg (fun f => List.foldl f 0#32 (List.finRange 255)) (funext fun r => funext fun (i : Fin 255) => congrArg (IntOp.addi r) ?_)
  rw [row255 i]
  show BitVec.setWidth 32 (BitVec.ofBool (decide (Cert.Scales.powers (F := Ideal) (ix1 i) ≤
    broadcastInDim Cert.KernelIdeal.S255 ![] Cert.KernelIdeal.Gen.bcast_S_S255 (Host.absf (F := Ideal) (φ := .f32) v) (ix1 i)))) = _
  rw [spread]
  rw [powers_apply]
  simp only [hs i.val i.isLt]
  by_cases h : i.val < n <;> simp [h]

/-- The exponent of a count, and the power of two of an exponent, as words. -/
abbrev expoWord (n : BitVec 32) : BitVec 32 :=
  Scalar.select (IntOp.ori (IntOp.cmpi .eq n 0#32) (IntOp.cmpi .eq n 255#32)) 0#32 (IntOp.subi n 126#32)
abbrev powerWord (e : BitVec 32) : BitVec 32 :=
  IntOp.shli .host (IntOp.minsi (IntOp.maxsi (IntOp.addi e 127#32) 0#32) 255#32) 23#32

theorem powerWord_scale : ∀ i : Fin 254, powerWord (expoWord (BitVec.ofNat 32 (i.val + 1))) = word (i.val + 2) := by decide +kernel
theorem powerWord_inv : ∀ i : Fin 254, powerWord (-expoWord (BitVec.ofNat 32 (i.val + 1))) = word (252 - i.val) := by decide +kernel

theorem power_scale (n : Nat) (h0 : 0 < n) (h : n < 255) : Ideal.ofBits .f32 (powerWord (expoWord (BitVec.ofNat 32 n))) = P (n - 1 + 2) := by
  have e := powerWord_scale ⟨n - 1, by omega⟩
  simp only [Nat.sub_add_cancel h0] at e
  rw [P, e]
theorem power_inv (n : Nat) (h0 : 0 < n) (h : n < 255) : Ideal.ofBits .f32 (powerWord (-expoWord (BitVec.ofNat 32 n))) = P (252 - (n - 1)) := by
  have e := powerWord_inv ⟨n - 1, by omega⟩
  simp only [Nat.sub_add_cancel h0] at e
  rw [P, e]

theorem select_true {α : Type} (a b : α) : Scalar.select (BitVec.ofBool true) a b = a := rfl
theorem select_false {α : Type} (a b : α) : Scalar.select (BitVec.ofBool false) a b = b := rfl

/-- Off the intervals the exponent is zero, and the power of two is one. -/
theorem zero_word : powerWord 0#32 = 0x3F800000#32 := by decide +kernel
theorem neg_zero_word : powerWord (-0#32) = 0x3F800000#32 := by decide +kernel
theorem expo_none : expoWord (BitVec.ofNat 32 0) = 0#32 := by decide +kernel
theorem expo_all : expoWord (BitVec.ofNat 32 255) = 0#32 := by decide +kernel

/-! ### The interval -/

theorem inside_apply (u : Vec Ideal S_ .f32) (n : Nat) (hn : n ≤ 255) (hs : Splits (u ix0) n) (i : Fin 254) :
    inside u (ix1 i) = BitVec.ofBool (decide (i.val + 1 = n)) := by
  show BitVec.ofBool (decide (lows (F := Ideal) (ix1 i) ≤ broadcastInDim S254 ![] bcast_S_S254 u (ix1 i))) &&&
    BitVec.ofBool (decide (broadcastInDim S254 ![] bcast_S_S254 u (ix1 i) < nexts (F := Ideal) (ix1 i))) = _
  have next : u ix0 < P (i.val + 2) ↔ ¬ i.val + 1 < n := not_le.symm.trans (not_congr (hs (i.val + 1) (by omega)))
  rw [spread, lows_apply, nexts_apply]
  simp only [hs i.val (by omega), next]
  by_cases h1 : i.val < n <;> by_cases h2 : i.val + 1 < n <;> by_cases h3 : i.val + 1 = n <;> simp [h1, h2, h3] <;> omega

/-- A table of values not below zero is read at the interval, and gives zero if there is none. -/
theorem pick_apply (t : Vec Ideal S254 .f32) (T : Nat → EReal) (ht : ∀ i : Fin 254, t (ix1 i) = T i.val) (hT : ∀ i, i < 254 → 0 ≤ T i)
    (u : Vec Ideal S_ .f32) (n : Nat) (hn : n ≤ 255) (hs : Splits (u ix0) n) :
    pick t u ix0 = if 0 < n ∧ n < 255 then T (n - 1) else 0 := by
  have zero : Ideal.ofBits .f32 0x00000000#32 = (0 : EReal) := by simp [Ideal.ofBits, Ideal.ieee]
  have el : ∀ i : Fin 254, select (inside u) t (broadcastInDim S254 ![] bcast_S_S254 (constant (F := Ideal) S_ .f32 0x00000000#32)) (ix1 i)
      = if i.val + 1 = n then T i.val else 0 := fun i => by
    show Scalar.select (inside u (ix1 i)) (t (ix1 i)) (Ideal.ofBits .f32 0x00000000#32) = _
    rw [inside_apply u n hn hs, ht, zero]
    by_cases h : i.val + 1 = n <;> simp [Scalar.select, h]
  unfold pick
  rw [Host.reduce_eq_fold]
  refine eq_of_forall_ge_iff fun B => (Cert.Spec.foldMax_le _ _ Cert.Spec.negInf_f32 B).trans ?_
  constructor
  · intro h
    have h' : ∀ i : Fin 254, (if i.val + 1 = n then T i.val else 0) ≤ B := fun i =>
      (el i).symm.trans_le (h (ix1 i) (Finset.mem_filter.2 ⟨Finset.mem_univ _, funext fun a => a.elim0⟩))
    split
    · have := h' ⟨n - 1, by omega⟩
      rwa [if_pos (show n - 1 + 1 = n by omega)] at this
    · rcases Nat.eq_zero_or_pos n with rfl | h0
      · simpa using h' 0
      · have := h' 0
        rwa [if_neg (show ¬ (0 : Fin 254).val + 1 = n by simp; omega)] at this
  · intro h i _
    rw [eq_ix1 i]
    refine (el (i 0)).trans_le ?_
    have hi : (i 0).val < 254 := (i 0).isLt
    split at h
    · split
      · rename_i h1 h2
        rwa [show n - 1 = (i 0).val by omega] at h
      · exact (hT _ (by omega)).trans h
    · rw [if_neg (by omega)]
      exact h

/-! ### The two scales are equal -/

variable (k : BitVec 32) (h : Vec Ideal S16 .f32) (n : Nat) (hn : n ≤ 255) (hs : Splits (value k h ix0) n)
include hn hs

theorem expo_eq : Cert.Scales.exponent k h ix0 = if top h ix0 = (0 : EReal) then 0#32 else expoWord (BitVec.ofNat 32 n) := by
  have zero : Ideal.ofBits .f32 0x00000000#32 = (0 : EReal) := by simp [Ideal.ofBits, Ideal.ieee]
  show Scalar.select (BitVec.ofBool (decide (top h ix0 = Ideal.ofBits .f32 0x00000000#32))) 0#32
    (expoWord (Cert.Scales.count (mulf (top h) (constant (F := Ideal) S_ .f32 k)) ix0)) = _
  rw [count_eq _ n hn hs, zero]
  by_cases h0 : top h ix0 = (0 : EReal) <;> simp [Scalar.select, h0]

theorem normal_eq : normal k h ix0 = BitVec.ofBool (decide (top h ix0 ≠ (0 : EReal) ∧ 0 < n ∧ n < 255)) := by
  have zero : Ideal.ofBits .f32 0x00000000#32 = (0 : EReal) := by simp [Ideal.ofBits, Ideal.ieee]
  show BitVec.ofBool (decide (top h ix0 ≠ Ideal.ofBits .f32 0x00000000#32)) &&&
    BitVec.ofBool (decide (Ideal.ofBits .f32 0x00000000#32 < pick nexts (value k h) ix0)) = _
  rw [zero, pick_apply nexts (fun i => P (i + 2)) nexts_apply (fun i hi => P_nonneg _ (by omega)) _ n hn hs]
  by_cases h1 : 0 < n ∧ n < 255
  · have := P_pos (n - 1 + 2) (by omega) (by omega)
    by_cases h0 : top h ix0 = (0 : EReal) <;> simp [h0, h1, this]
  · by_cases h0 : top h ix0 = (0 : EReal) <;> simp [h0, h1]

theorem scale_at : scale k h ix0 = Cert.Scales.scale k h ix0 := by
  show Scalar.select (normal k h ix0) (pick nexts (value k h) ix0) (Ideal.ofBits .f32 0x3F800000#32)
    = Ideal.ofBits .f32 (powerWord (Cert.Scales.exponent k h ix0))
  rw [normal_eq k h n hn hs, expo_eq k h n hn hs, pick_apply nexts (fun i => P (i + 2)) nexts_apply (fun i hi => P_nonneg _ (by omega)) _ n hn hs]
  by_cases hc : top h ix0 ≠ (0 : EReal) ∧ 0 < n ∧ n < 255
  · rw [decide_eq_true hc, if_neg hc.1, if_pos hc.2, select_true, power_scale n hc.2.1 hc.2.2]
  · have e : (if top h ix0 = (0 : EReal) then 0#32 else expoWord (BitVec.ofNat 32 n)) = 0#32 := by
      split
      · rfl
      · rename_i h0
        have : n = 0 ∨ n = 255 := by by_contra h'; exact hc ⟨h0, by omega, by omega⟩
        rcases this with rfl | rfl
        · exact expo_none
        · exact expo_all
    rw [decide_eq_false hc, select_false, e, zero_word]

theorem inv_at : inv k h ix0 = Cert.Scales.inv k h ix0 := by
  show Scalar.select (normal k h ix0) (pick inverses (value k h) ix0) (Ideal.ofBits .f32 0x3F800000#32)
    = Ideal.ofBits .f32 (powerWord (-(Cert.Scales.exponent k h ix0)))
  rw [normal_eq k h n hn hs, expo_eq k h n hn hs, pick_apply inverses (fun i => P (252 - i)) inverses_apply (fun i hi => P_nonneg _ (by omega)) _ n hn hs]
  by_cases hc : top h ix0 ≠ (0 : EReal) ∧ 0 < n ∧ n < 255
  · rw [decide_eq_true hc, if_neg hc.1, if_pos hc.2, select_true, power_inv n hc.2.1 hc.2.2]
  · have e : (if top h ix0 = (0 : EReal) then 0#32 else expoWord (BitVec.ofNat 32 n)) = 0#32 := by
      split
      · rfl
      · rename_i h0
        have : n = 0 ∨ n = 255 := by by_contra h'; exact hc ⟨h0, by omega, by omega⟩
        rcases this with rfl | rfl
        · exact expo_none
        · exact expo_all
    rw [decide_eq_false hc, select_false, e, neg_zero_word]

omit hn hs

/-- The scale from the intervals is the scale from the count. -/
theorem scale_eq : scale k h = Cert.Scales.scale k h := funext fun i => by
  obtain ⟨n, hn, hs⟩ := split (value k h ix0)
  rw [show i = ix0 from funext fun a => a.elim0]
  exact scale_at k h n hn hs

/-- And so are the inverses. -/
theorem inv_eq : inv k h = Cert.Scales.inv k h := funext fun i => by
  obtain ⟨n, hn, hs⟩ := split (value k h ix0)
  rw [show i = ix0 from funext fun a => a.elim0]
  exact inv_at k h n hn hs

end Cert.ReferenceIdeal.Intervals

end
-- ==== Proof.ReferenceIdeal.Scales.lean ====
/-
  The scales that the program's host part has computed when the call starts: read off its lines they come from the
  intervals, and over the extended reals they are those of the count of powers.
-/
module

public import proofs.«01_k».proof.Proof.Gen.ReferenceIdeal.Frame
public import proofs.«01_k».proof.Proof.ReferenceIdeal.Intervals

@[expose] public section

set_option maxRecDepth 16384

noncomputable section

namespace Cert.ReferenceIdeal.Scales

open Cert.ReferenceIdeal Cert.ReferenceIdeal.Gen
open Idealize.ShloMosaic Idealize.ShloMosaic.TcCoe Idealize.SL.Sem
open Cert.Scales

variable (m : (ℓ : Loc nD τ sig) → Buf (Elt Ideal) ℓ) (c : Dev nD)

/-- The scale of x. -/
theorem v17 : (V0 m c main_v17 : Vec Ideal S_ .f32) = scale 0x3B124925#32 (m ((c : Thread nD τ).loc main_arg3)) := by
  refine Eq.trans ?_ (Intervals.scale_eq _ _)
  unfold V0
  simp only [List.flatten_cons, List.flatten_nil, List.append_nil, List.cons_append, List.nil_append]
  after_reads_simp
  rfl

/-- Its inverse. -/
theorem v18 : (V0 m c main_v18 : Vec Ideal S_ .f32) = inv 0x3B124925#32 (m ((c : Thread nD τ).loc main_arg3)) := by
  refine Eq.trans ?_ (Intervals.inv_eq _ _)
  unfold V0
  simp only [List.flatten_cons, List.flatten_nil, List.append_nil, List.cons_append, List.nil_append]
  after_reads_simp
  rfl

/-- The scale of the weights. -/
theorem v36 : (V0 m c main_v36 : Vec Ideal S_ .f32) = scale 0x3B124925#32 (m ((c : Thread nD τ).loc main_arg4)) := by
  refine Eq.trans ?_ (Intervals.scale_eq _ _)
  unfold V0
  simp only [List.flatten_cons, List.flatten_nil, List.append_nil, List.cons_append, List.nil_append]
  after_reads_simp
  rfl

/-- Its inverse. -/
theorem v37 : (V0 m c main_v37 : Vec Ideal S_ .f32) = inv 0x3B124925#32 (m ((c : Thread nD τ).loc main_arg4)) := by
  refine Eq.trans ?_ (Intervals.inv_eq _ _)
  unfold V0
  simp only [List.flatten_cons, List.flatten_nil, List.append_nil, List.cons_append, List.nil_append]
  after_reads_simp
  rfl

/-- The scale of dy. -/
theorem v55 : (V0 m c main_v55 : Vec Ideal S_ .f32) = scale 0x37924925#32 (m ((c : Thread nD τ).loc main_arg5)) := by
  refine Eq.trans ?_ (Intervals.scale_eq _ _)
  unfold V0
  simp only [List.flatten_cons, List.flatten_nil, List.append_nil, List.cons_append, List.nil_append]
  after_reads_simp
  rfl

/-- Its inverse. -/
theorem v56 : (V0 m c main_v56 : Vec Ideal S_ .f32) = inv 0x37924925#32 (m ((c : Thread nD τ).loc main_arg5)) := by
  refine Eq.trans ?_ (Intervals.inv_eq _ _)
  unfold V0
  simp only [List.flatten_cons, List.flatten_nil, List.append_nil, List.cons_append, List.nil_append]
  after_reads_simp
  rfl

/-- The operand that holds it. -/
theorem v57 : (V0 m c main_v57 : Vec Ideal S1x1 .f32) = shapeCast S1x1 (inv 0x3B124925#32 (m ((c : Thread nD τ).loc main_arg3))) shapeCasts_S_S1x1 := by
  refine Eq.trans ?_ (congrArg (fun s => shapeCast S1x1 s shapeCasts_S_S1x1) (Intervals.inv_eq _ _))
  unfold V0
  simp only [List.flatten_cons, List.flatten_nil, List.append_nil, List.cons_append, List.nil_append]
  after_reads_simp
  rfl

/-- The operand that holds it. -/
theorem v58 : (V0 m c main_v58 : Vec Ideal S1x1 .f32) = shapeCast S1x1 (inv 0x3B124925#32 (m ((c : Thread nD τ).loc main_arg4))) shapeCasts_S_S1x1 := by
  refine Eq.trans ?_ (congrArg (fun s => shapeCast S1x1 s shapeCasts_S_S1x1) (Intervals.inv_eq _ _))
  unfold V0
  simp only [List.flatten_cons, List.flatten_nil, List.append_nil, List.cons_append, List.nil_append]
  after_reads_simp
  rfl

/-- The operand that holds it. -/
theorem v59 : (V0 m c main_v59 : Vec Ideal S1x1 .f32) = shapeCast S1x1 (inv 0x37924925#32 (m ((c : Thread nD τ).loc main_arg5))) shapeCasts_S_S1x1 := by
  refine Eq.trans ?_ (congrArg (fun s => shapeCast S1x1 s shapeCasts_S_S1x1) (Intervals.inv_eq _ _))
  unfold V0
  simp only [List.flatten_cons, List.flatten_nil, List.append_nil, List.cons_append, List.nil_append]
  after_reads_simp
  rfl

/-- The operand that holds it. -/
theorem v60 : (V0 m c main_v60 : Vec Ideal S1x1 .f32) = shapeCast S1x1 (scale 0x3B124925#32 (m ((c : Thread nD τ).loc main_arg3))) shapeCasts_S_S1x1 := by
  refine Eq.trans ?_ (congrArg (fun s => shapeCast S1x1 s shapeCasts_S_S1x1) (Intervals.scale_eq _ _))
  unfold V0
  simp only [List.flatten_cons, List.flatten_nil, List.append_nil, List.cons_append, List.nil_append]
  after_reads_simp
  rfl

/-- The operand that holds it. -/
theorem v61 : (V0 m c main_v61 : Vec Ideal S1x1 .f32) = shapeCast S1x1 (scale 0x3B124925#32 (m ((c : Thread nD τ).loc main_arg4))) shapeCasts_S_S1x1 := by
  refine Eq.trans ?_ (congrArg (fun s => shapeCast S1x1 s shapeCasts_S_S1x1) (Intervals.scale_eq _ _))
  unfold V0
  simp only [List.flatten_cons, List.flatten_nil, List.append_nil, List.cons_append, List.nil_append]
  after_reads_simp
  rfl

/-- The operand that holds it. -/
theorem v62 : (V0 m c main_v62 : Vec Ideal S1x1 .f32) = shapeCast S1x1 (scale 0x37924925#32 (m ((c : Thread nD τ).loc main_arg5))) shapeCasts_S_S1x1 := by
  refine Eq.trans ?_ (congrArg (fun s => shapeCast S1x1 s shapeCasts_S_S1x1) (Intervals.scale_eq _ _))
  unfold V0
  simp only [List.flatten_cons, List.flatten_nil, List.append_nil, List.cons_append, List.nil_append]
  after_reads_simp
  rfl

end Cert.ReferenceIdeal.Scales

end
-- ==== Proof.ReferenceIdeal.Value.lean ====
/-
  What the reference's result buffers hold at the return, as functions of the arguments.
-/
module

public import proofs.«01_k».proof.Proof.ReferenceIdeal.Scales
public import proofs.«01_k».proof.Proof.Reads
public import proofs.«01_k».proof.Proof.Results

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)
open Cert.Spec Cert.Results Cert.Reads

variable (m : (ℓ : Loc nD τ sig) → Buf (Elt Ideal) ℓ) (c : Dev nD)

/-- The arguments. -/
abbrev x : Vec Ideal S3x6144x1664 .bf16 := m ((c : Thread nD τ).loc main_arg0)
abbrev w : Vec Ideal S1664x1536 .f32 := m ((c : Thread nD τ).loc main_arg1)
abbrev d : Vec Ideal S3x6144x1536 .bf16 := m ((c : Thread nD τ).loc main_arg2)
abbrev hx : Vec Ideal S16 .f32 := m ((c : Thread nD τ).loc main_arg3)
abbrev hw : Vec Ideal S16 .f32 := m ((c : Thread nD τ).loc main_arg4)
abbrev hd : Vec Ideal S16 .f32 := m ((c : Thread nD τ).loc main_arg5)

/-! ### The body's values, element by element -/

section Pays
variable (x : Vec Ideal S3x6144x1664 .bf16) (w : Vec Ideal S1664x1536 .f32) (d : Vec Ideal S3x6144x1536 .bf16) (s t u v : Vec Ideal S1x1 .f32)

theorem pay_xq (a : Fin 3) (b : Fin 6144) (k : Fin 1664) : k0_pay4 x s (ix3 a b k) = q448 (x (ix3 a b k)) (s (ix2 0 0)) := by
  pointwise [k0_pay4]
  rfl
theorem pay_wq (k : Fin 1664) (j : Fin 1536) : k0_pay5 w s (ix2 k j) = q448 (w (ix2 k j)) (s (ix2 0 0)) := by
  pointwise [k0_pay5]
  rfl
theorem pay_dq (a : Fin 3) (b : Fin 6144) (j : Fin 1536) : k0_pay6 d s (ix3 a b j) = q57344 (d (ix3 a b j)) (s (ix2 0 0)) := by
  pointwise [k0_pay6]
  rfl
theorem pay_y (a : Fin 3) (b : Fin 6144) (j : Fin 1536) : k0_pay7 (k0_pay4 x s) (k0_pay5 w t) u v (ix3 a b j) =
    (∑ k : Fin 1664, q448 (x (ix3 a b k)) (s (ix2 0 0)) * q448 (w (ix2 k j)) (t (ix2 0 0))) * (u (ix2 0 0) * v (ix2 0 0)) := by
  pointwise [k0_pay7, k0_pay4, k0_pay5]
  rfl
theorem pay_dx (a : Fin 3) (b : Fin 6144) (k : Fin 1664) : k0_pay8 (k0_pay5 w s) (k0_pay6 d t) u v (ix3 a b k) =
    (∑ j : Fin 1536, q57344 (d (ix3 a b j)) (t (ix2 0 0)) * q448 (w (ix2 k j)) (s (ix2 0 0))) * (u (ix2 0 0) * v (ix2 0 0)) := by
  pointwise [k0_pay8, k0_pay5, k0_pay6]
  rfl
theorem pay_dw (k : Fin 1664) (j : Fin 1536) : k0_pay9 (k0_pay4 x s) (k0_pay6 d t) u v (ix2 k j) =
    (∑ a : Fin 3, ∑ b : Fin 6144, q448 (x (ix3 a b k)) (s (ix2 0 0)) * q57344 (d (ix3 a b j)) (t (ix2 0 0))) * (u (ix2 0 0) * v (ix2 0 0)) := by
  pointwise [k0_pay9, k0_pay4, k0_pay6]
  rfl

/-- The index of a vector of one element. -/
theorem one1 (i j : S1.Idx) : i = j := (eq_ix1 i).trans ((congrArg ix1 (Subsingleton.elim (α := Fin 1) (i 0) (j 0))).trans (eq_ix1 j).symm)

/-- The largest absolute values. -/
theorem pay_aw : IsMax (k0_pay2 w) w := fun i B => by
  pointwise [k0_pay2]
  refine (foldMax_le _ _ negInf_f32 B).trans ⟨fun h j => ?_, fun h q _ => h _⟩
  rw [eq_ix2 j]
  exact h (j 0, j 1) (Finset.mem_univ _)
theorem pay_ax : IsMax (k0_pay1 x) x := fun i B => by
  pointwise [k0_pay1]
  refine (foldMax_le _ _ negInf_f32 B).trans ⟨fun h j => ?_, fun h q _ => h _⟩
  rw [eq_ix3 j]
  exact h (ix4 0 (j 0) (j 1) (j 2)) (Finset.mem_filter.2 ⟨Finset.mem_univ _, one1 _ _⟩)
theorem pay_ad : IsMax (k0_pay3 d) d := fun i B => by
  pointwise [k0_pay3]
  refine (foldMax_le _ _ negInf_f32 B).trans ⟨fun h j => ?_, fun h q _ => h _⟩
  rw [eq_ix3 j]
  exact h (ix4 0 (j 0) (j 1) (j 2)) (Finset.mem_filter.2 ⟨Finset.mem_univ _, one1 _ _⟩)
end Pays

/-! ### The operands: every window is its whole array -/

/-- The one point. -/
def pt : Fin cfg0.N := ⟨0, by decide +kernel⟩

/-- A whole-array window's indices are the array's. -/
theorem emb6 (i : S3x6144x1664.Idx) : (win0_6.blk pt).view.emb i = i := funext fun a => Fin.ext (by
  fin_cases a <;> exact (Nat.zero_add _).trans (Nat.one_mul _))
theorem emb7 (i : S1664x1536.Idx) : (win0_7.blk pt).view.emb i = i := funext fun a => Fin.ext (by
  fin_cases a <;> exact (Nat.zero_add _).trans (Nat.one_mul _))
theorem emb8 (i : S3x6144x1536.Idx) : (win0_8.blk pt).view.emb i = i := funext fun a => Fin.ext (by
  fin_cases a <;> exact (Nat.zero_add _).trans (Nat.one_mul _))

/-- A one-element array read anywhere. -/
theorem one {α : Type} (v : S_.Idx → α) (i : S1x1.Idx) : shapeCast S1x1 v shapeCasts_S_S1x1 i = v ix0 := congrArg v (Subsingleton.elim _ _)

theorem blk0 : iblk m c 0 pt (ix2 0 0) = iv k448 (hx m c) := by
  unfold iblk
  blk_simp
  show (V m c main_v57 : Vec Ideal S1x1 .f32) _ = _
  rw [V, Scales.v57]
  exact one _ _
theorem blk1 : iblk m c 1 pt (ix2 0 0) = iv k448 (hw m c) := by
  unfold iblk
  blk_simp
  show (V m c main_v58 : Vec Ideal S1x1 .f32) _ = _
  rw [V, Scales.v58]
  exact one _ _
theorem blk2 : iblk m c 2 pt (ix2 0 0) = iv k57344 (hd m c) := by
  unfold iblk
  blk_simp
  show (V m c main_v59 : Vec Ideal S1x1 .f32) _ = _
  rw [V, Scales.v59]
  exact one _ _
theorem blk3 : iblk m c 3 pt (ix2 0 0) = sc k448 (hx m c) := by
  unfold iblk
  blk_simp
  show (V m c main_v60 : Vec Ideal S1x1 .f32) _ = _
  rw [V, Scales.v60]
  exact one _ _
theorem blk4 : iblk m c 4 pt (ix2 0 0) = sc k448 (hw m c) := by
  unfold iblk
  blk_simp
  show (V m c main_v61 : Vec Ideal S1x1 .f32) _ = _
  rw [V, Scales.v61]
  exact one _ _
theorem blk5 : iblk m c 5 pt (ix2 0 0) = sc k57344 (hd m c) := by
  unfold iblk
  blk_simp
  show (V m c main_v62 : Vec Ideal S1x1 .f32) _ = _
  rw [V, Scales.v62]
  exact one _ _
theorem blk6 : iblk m c 6 pt = x m c := by
  funext i
  unfold iblk
  blk_simp
  show (V m c main_arg0 : Vec Ideal S3x6144x1664 _) _ = _
  rw [V_main_arg0]
  exact congrArg (x m c) (emb6 i)
theorem blk7 : iblk m c 7 pt = w m c := by
  funext i
  unfold iblk
  blk_simp
  show (V m c main_arg1 : Vec Ideal S1664x1536 _) _ = _
  rw [V_main_arg1]
  exact congrArg (w m c) (emb7 i)
theorem blk8 : iblk m c 8 pt = d m c := by
  funext i
  unfold iblk
  blk_simp
  show (V m c main_arg2 : Vec Ideal S3x6144x1536 _) _ = _
  rw [V_main_arg2]
  exact congrArg (d m c) (emb8 i)

/-! ### What the call leaves -/

/-- The body's loads read whole buffers. -/
theorem ldx {e : EltTy} (X : S3x6144x1664.Idx → Elt Ideal e) : View.ld X r0_0 = X := ld3 X _
theorem ldw {e : EltTy} (X : S1664x1536.Idx → Elt Ideal e) : View.ld X r0_1 = X := ld2 X _
theorem ldd {e : EltTy} (X : S3x6144x1536.Idx → Elt Ideal e) : View.ld X r0_2 = X := ld3 X _
theorem lds {e : EltTy} (X : S1x1.Idx → Elt Ideal e) : View.ld X r0_3 = X := ld2 X _

theorem out9 : (dats m 0 c).after 9 pt = k0_pay7 (k0_pay4 (x m c) (iblk m c 0 pt)) (k0_pay5 (w m c) (iblk m c 1 pt)) (iblk m c 3 pt) (iblk m c 4 pt) := by
  rw [after0_9, blk6, blk7, blk8]
  unfold_out out0_9
  refine (View.canon_unit_zero hz3 _ _).trans ?_
  simp only [ldx, ldw, ldd, lds]
theorem out10 : (dats m 0 c).after 10 pt = k0_pay8 (k0_pay5 (w m c) (iblk m c 1 pt)) (k0_pay6 (d m c) (iblk m c 2 pt)) (iblk m c 5 pt) (iblk m c 4 pt) := by
  rw [after0_10, blk6, blk7, blk8]
  unfold_out out0_10
  refine (View.canon_unit_zero hz3 _ _).trans ?_
  simp only [ldx, ldw, ldd, lds]
theorem out11 : (dats m 0 c).after 11 pt = k0_pay9 (k0_pay4 (x m c) (iblk m c 0 pt)) (k0_pay6 (d m c) (iblk m c 2 pt)) (iblk m c 3 pt) (iblk m c 5 pt) := by
  rw [after0_11, blk6, blk7, blk8]
  unfold_out out0_11
  refine (View.canon_unit_zero hz2 _ _).trans ?_
  simp only [ldx, ldw, ldd, lds]
theorem out12 : (dats m 0 c).after 12 pt = k0_pay4 (x m c) (iblk m c 0 pt) := by
  rw [after0_12, blk6, blk7, blk8]
  unfold_out out0_12
  refine (View.canon_unit_zero hz3 _ _).trans ?_
  simp only [ldx, ldw, ldd, lds]
theorem out13 : (dats m 0 c).after 13 pt = k0_pay5 (w m c) (iblk m c 1 pt) := by
  rw [after0_13, blk6, blk7, blk8]
  unfold_out out0_13
  refine (View.canon_unit_zero hz2 _ _).trans ?_
  simp only [ldx, ldw, ldd, lds]
theorem out14 : (dats m 0 c).after 14 pt = k0_pay6 (d m c) (iblk m c 2 pt) := by
  rw [after0_14, blk6, blk7, blk8]
  unfold_out out0_14
  refine (View.canon_unit_zero hz3 _ _).trans ?_
  simp only [ldx, ldw, ldd, lds]
theorem out15 : (dats m 0 c).after 15 pt = k0_pay1 (x m c) := by
  rw [after0_15, blk6, blk7, blk8]
  unfold_out out0_15
  refine (View.canon_unit_zero hz2 _ _).trans ?_
  simp only [ldx, ldw, ldd, lds]
theorem out16 : (dats m 0 c).after 16 pt = k0_pay2 (w m c) := by
  rw [after0_16, blk6, blk7, blk8]
  unfold_out out0_16
  refine (View.canon_unit_zero hz2 _ _).trans ?_
  simp only [ldx, ldw, ldd, lds]
theorem out17 : (dats m 0 c).after 17 pt = k0_pay3 (d m c) := by
  rw [after0_17, blk6, blk7, blk8]
  unfold_out out0_17
  refine (View.canon_unit_zero hz2 _ _).trans ?_
  simp only [ldx, ldw, ldd, lds]

/-- The three products, the codes and the largest absolute values. -/
theorem arr_y : ((dats m 0 c).arrAt 9 cfg0.N : Vec Ideal S3x6144x1536 .bf16) = Results.y (x m c) (w m c) (hx m c) (hw m c) := by
  refine (dats m 0 c).arrAt_eq_of_after_last 9 pt (by decide +kernel) _ fun i => ?_
  blk_simp
  rw [out9]
  obtain ⟨a, b, j, rfl⟩ : ∃ (a : Fin 3) (b : Fin 6144) (j : Fin 1536), i = (ix3 a b j : S3x6144x1536.Idx) := ⟨i 0, i 1, i 2, eq_ix3 i⟩
  refine (pay_y _ _ _ _ _ _ a b j).trans ?_
  rw [blk0, blk1, blk3, blk4]
  rfl
theorem arr_dx : ((dats m 0 c).arrAt 10 cfg0.N : Vec Ideal S3x6144x1664 .bf16) = Results.dx (w m c) (d m c) (hw m c) (hd m c) := by
  refine (dats m 0 c).arrAt_eq_of_after_last 10 pt (by decide +kernel) _ fun i => ?_
  blk_simp
  rw [out10]
  obtain ⟨a, b, j, rfl⟩ : ∃ (a : Fin 3) (b : Fin 6144) (j : Fin 1664), i = (ix3 a b j : S3x6144x1664.Idx) := ⟨i 0, i 1, i 2, eq_ix3 i⟩
  refine (pay_dx _ _ _ _ _ _ a b j).trans ?_
  rw [blk1, blk2, blk4, blk5]
  rfl
theorem arr_dw : ((dats m 0 c).arrAt 11 cfg0.N : Vec Ideal S1664x1536 .f32) = Results.dw (x m c) (d m c) (hx m c) (hd m c) := by
  refine (dats m 0 c).arrAt_eq_of_after_last 11 pt (by decide +kernel) _ fun i => ?_
  blk_simp
  rw [out11]
  obtain ⟨k, j, rfl⟩ : ∃ (k : Fin 1664) (j : Fin 1536), i = (ix2 k j : S1664x1536.Idx) := ⟨i 0, i 1, eq_ix2 i⟩
  refine (pay_dw _ _ _ _ _ _ k j).trans ?_
  rw [blk0, blk2, blk3, blk5]
  rfl
theorem arr_xq : ((dats m 0 c).arrAt 12 cfg0.N : Vec Ideal S3x6144x1664 .fp8e4m3) = Results.xq (x m c) (hx m c) := by
  refine (dats m 0 c).arrAt_eq_of_after_last 12 pt (by decide +kernel) _ fun i => ?_
  blk_simp
  rw [out12]
  obtain ⟨a, b, j, rfl⟩ : ∃ (a : Fin 3) (b : Fin 6144) (j : Fin 1664), i = (ix3 a b j : S3x6144x1664.Idx) := ⟨i 0, i 1, i 2, eq_ix3 i⟩
  refine (pay_xq _ _ a b j).trans ?_
  rw [blk0]
  rfl
theorem arr_wq : ((dats m 0 c).arrAt 13 cfg0.N : Vec Ideal S1664x1536 .fp8e4m3) = Results.wq (w m c) (hw m c) := by
  refine (dats m 0 c).arrAt_eq_of_after_last 13 pt (by decide +kernel) _ fun i => ?_
  blk_simp
  rw [out13]
  obtain ⟨k, j, rfl⟩ : ∃ (k : Fin 1664) (j : Fin 1536), i = (ix2 k j : S1664x1536.Idx) := ⟨i 0, i 1, eq_ix2 i⟩
  refine (pay_wq _ _ k j).trans ?_
  rw [blk1]
  rfl
theorem arr_dq : ((dats m 0 c).arrAt 14 cfg0.N : Vec Ideal S3x6144x1536 .fp8e5m2) = Results.dq (d m c) (hd m c) := by
  refine (dats m 0 c).arrAt_eq_of_after_last 14 pt (by decide +kernel) _ fun i => ?_
  blk_simp
  rw [out14]
  obtain ⟨a, b, j, rfl⟩ : ∃ (a : Fin 3) (b : Fin 6144) (j : Fin 1536), i = (ix3 a b j : S3x6144x1536.Idx) := ⟨i 0, i 1, i 2, eq_ix3 i⟩
  refine (pay_dq _ _ a b j).trans ?_
  rw [blk2]
  rfl
theorem arr_ax : ((dats m 0 c).arrAt 15 cfg0.N : Vec Ideal S1x1 .f32) = k0_pay1 (x m c) := by
  refine (dats m 0 c).arrAt_eq_of_after_last 15 pt (by decide +kernel) _ fun i => ?_
  blk_simp
  rw [out15]
theorem arr_aw : ((dats m 0 c).arrAt 16 cfg0.N : Vec Ideal S1x1 .f32) = k0_pay2 (w m c) := by
  refine (dats m 0 c).arrAt_eq_of_after_last 16 pt (by decide +kernel) _ fun i => ?_
  blk_simp
  rw [out16]
theorem arr_ad : ((dats m 0 c).arrAt 17 cfg0.N : Vec Ideal S1x1 .f32) = k0_pay3 (d m c) := by
  refine (dats m 0 c).arrAt_eq_of_after_last 17 pt (by decide +kernel) _ fun i => ?_
  blk_simp
  rw [out17]

/-! ### What the lines after it leave -/

/-- The buffers at the return. -/
abbrev end_ (b : Ref sig .tc) : Buf (Elt Ideal) ((c : Thread nD τ).loc b) := Pipeline.afterTail₀ cfgs (dats m) 0 (V0 m) [hostOps1] c b

section Tail
variable (W : Valuation τ sig (Elt Ideal))

theorem tail_v17 : StableHlo.after (List.flatten [hostOps1]) W (Proc.devRef .tc main_v17) = W (Proc.devRef .tc main_v17) := by
  simp only [List.flatten_cons, List.flatten_nil, List.append_nil]
  after_reads_simp
theorem tail_v36 : StableHlo.after (List.flatten [hostOps1]) W (Proc.devRef .tc main_v36) = W (Proc.devRef .tc main_v36) := by
  simp only [List.flatten_cons, List.flatten_nil, List.append_nil]
  after_reads_simp
theorem tail_v55 : StableHlo.after (List.flatten [hostOps1]) W (Proc.devRef .tc main_v55) = W (Proc.devRef .tc main_v55) := by
  simp only [List.flatten_cons, List.flatten_nil, List.append_nil]
  after_reads_simp
theorem tail_v66 : (StableHlo.after (List.flatten [hostOps1]) W (Proc.devRef .tc main_v66) : Vec Ideal S16 .f32) =
    hist (W (Proc.devRef .tc main_arg3)) (W (Proc.devRef .tc main_v63_6)) := by
  simp only [List.flatten_cons, List.flatten_nil, List.append_nil]
  after_reads_simp
  rfl
theorem tail_v69 : (StableHlo.after (List.flatten [hostOps1]) W (Proc.devRef .tc main_v69) : Vec Ideal S16 .f32) =
    hist (W (Proc.devRef .tc main_arg4)) (W (Proc.devRef .tc main_v63_7)) := by
  simp only [List.flatten_cons, List.flatten_nil, List.append_nil]
  after_reads_simp
  rfl
theorem tail_v72 : (StableHlo.after (List.flatten [hostOps1]) W (Proc.devRef .tc main_v72) : Vec Ideal S16 .f32) =
    hist (W (Proc.devRef .tc main_arg5)) (W (Proc.devRef .tc main_v63_8)) := by
  simp only [List.flatten_cons, List.flatten_nil, List.append_nil]
  after_reads_simp
  rfl
end Tail

theorem end_xs : (end_ m c main_v17 : Vec Ideal S_ .f32) = Cert.Scales.scale k448 (hx m c) := by
  unfold end_ Pipeline.afterTail₀
  exact (tail_v17 _).trans ((Pipeline.withArrays_of_ne spec0 c (V0 m c) _ main_v17 (by exact (by decide : ∀ w, Pipeline.arrRef spec0 w ≠ main_v17))).trans (Scales.v17 m c))
theorem end_ws : (end_ m c main_v36 : Vec Ideal S_ .f32) = Cert.Scales.scale k448 (hw m c) := by
  unfold end_ Pipeline.afterTail₀
  exact (tail_v36 _).trans ((Pipeline.withArrays_of_ne spec0 c (V0 m c) _ main_v36 (by exact (by decide : ∀ w, Pipeline.arrRef spec0 w ≠ main_v36))).trans (Scales.v36 m c))
theorem end_ds : (end_ m c main_v55 : Vec Ideal S_ .f32) = Cert.Scales.scale k57344 (hd m c) := by
  unfold end_ Pipeline.afterTail₀
  exact (tail_v55 _).trans ((Pipeline.withArrays_of_ne spec0 c (V0 m c) _ main_v55 (by exact (by decide : ∀ w, Pipeline.arrRef spec0 w ≠ main_v55))).trans (Scales.v55 m c))
theorem end_hx : (end_ m c main_v66 : Vec Ideal S16 .f32) = hist (hx m c) (k0_pay1 (x m c)) := by
  unfold end_ Pipeline.afterTail₀
  refine (tail_v66 _).trans (congrArg₂ hist ?_ ?_)
  · exact (Pipeline.withArrays_of_ne spec0 c (V0 m c) _ main_arg3 (by exact (by decide : ∀ w, Pipeline.arrRef spec0 w ≠ main_arg3))).trans (V_main_arg3 m c)
  · exact (Pipeline.withArrays_arr spec0 launch0.win.arr_inj c _ _ 15).trans (arr_ax m c)
theorem end_hw : (end_ m c main_v69 : Vec Ideal S16 .f32) = hist (hw m c) (k0_pay2 (w m c)) := by
  unfold end_ Pipeline.afterTail₀
  refine (tail_v69 _).trans (congrArg₂ hist ?_ ?_)
  · exact (Pipeline.withArrays_of_ne spec0 c (V0 m c) _ main_arg4 (by exact (by decide : ∀ w, Pipeline.arrRef spec0 w ≠ main_arg4))).trans (V_main_arg4 m c)
  · exact (Pipeline.withArrays_arr spec0 launch0.win.arr_inj c _ _ 16).trans (arr_aw m c)
theorem end_hd : (end_ m c main_v72 : Vec Ideal S16 .f32) = hist (hd m c) (k0_pay3 (d m c)) := by
  unfold end_ Pipeline.afterTail₀
  refine (tail_v72 _).trans (congrArg₂ hist ?_ ?_)
  · exact (Pipeline.withArrays_of_ne spec0 c (V0 m c) _ main_arg5 (by exact (by decide : ∀ w, Pipeline.arrRef spec0 w ≠ main_arg5))).trans (V_main_arg5 m c)
  · exact (Pipeline.withArrays_arr spec0 launch0.win.arr_inj c _ _ 17).trans (arr_ad m c)

set_option maxHeartbeats 4000000 in
/-- The run, from arguments given by name: what the results hold at the return, and the arguments unchanged. -/
theorem results (ρ : Dev nD → PrngReg)
    (X : Dev nD → Vec Ideal S3x6144x1664 .bf16) (W : Dev nD → Vec Ideal S1664x1536 .f32) (D : Dev nD → Vec Ideal S3x6144x1536 .bf16)
    (HX HW HD : Dev nD → Vec Ideal S16 .f32) (AX AW AD : Dev nD → Vec Ideal S1x1 .f32)
    (eX : ∀ c, x m c = X c) (eW : ∀ c, w m c = W c) (eD : ∀ c, d m c = D c)
    (eHX : ∀ c, hx m c = HX c) (eHW : ∀ c, hw m c = HW c) (eHD : ∀ c, hd m c = HD c)
    (hAX : ∀ c, IsMax (AX c) (X c)) (hAW : ∀ c, IsMax (AW c) (W c)) (hAD : ∀ c, IsMax (AD c) (D c)) :
    θ_run (defs (F := Ideal)) (onTc (τ := τ) (main (F := Ideal))) ⟨m, fun _ => 0, ρ⟩ (fun r => ∀ c : Dev nD,
      r.2.mem ((c.tc : Thread nD τ).loc main_v63_0) = Results.y (X c) (W c) (HX c) (HW c)
      ∧ r.2.mem ((c.tc : Thread nD τ).loc main_v63_1) = Results.dx (W c) (D c) (HW c) (HD c)
      ∧ r.2.mem ((c.tc : Thread nD τ).loc main_v63_2) = Results.dw (X c) (D c) (HX c) (HD c)
      ∧ r.2.mem ((c.tc : Thread nD τ).loc main_v66) = hist (HX c) (AX c)
      ∧ r.2.mem ((c.tc : Thread nD τ).loc main_v69) = hist (HW c) (AW c)
      ∧ r.2.mem ((c.tc : Thread nD τ).loc main_v72) = hist (HD c) (AD c)
      ∧ r.2.mem ((c.tc : Thread nD τ).loc main_v63_3) = Results.xq (X c) (HX c)
      ∧ r.2.mem ((c.tc : Thread nD τ).loc main_v17) = Cert.Scales.scale k448 (HX c)
      ∧ r.2.mem ((c.tc : Thread nD τ).loc main_v63_4) = Results.wq (W c) (HW c)
      ∧ r.2.mem ((c.tc : Thread nD τ).loc main_v36) = Cert.Scales.scale k448 (HW c)
      ∧ r.2.mem ((c.tc : Thread nD τ).loc main_v63_5) = Results.dq (D c) (HD c)
      ∧ r.2.mem ((c.tc : Thread nD τ).loc main_v55) = Cert.Scales.scale k57344 (HD c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  obtain rfl : x m = X := funext eX
  obtain rfl : w m = W := funext eW
  obtain rfl : d m = D := funext eD
  obtain rfl : hx m = HX := funext eHX
  obtain rfl : hw m = HW := funext eHW
  obtain rfl : hd m = HD := funext eHD
  obtain rfl : AX = fun c => k0_pay1 (x m c) := funext fun c => (hAX c).unique (pay_ax _)
  obtain rfl : AW = fun c => k0_pay2 (w m c) := funext fun c => (hAW c).unique (pay_aw _)
  obtain rfl : AD = fun c => k0_pay3 (d m c) := funext fun c => (hAD c).unique (pay_ad _)
  have rest : ∀ (r : PUnit × MemSt nD τ sig (Elt Ideal)), Pipeline.FramePost cfgs (dats m) 0 (Pipeline.afterTail₀ cfgs (dats m) 0 (V0 m) [hostOps1]) r →
      ∀ c : Dev nD, ∀ b ∈ Pipeline.restRefs sig spec0, r.2.mem ((c.tc : Thread nD τ).loc b) = end_ m c b := fun r h c b hb => (h c).2 b hb
  refine (θ_run defs _ _).mono (fun r h c => ?_) (θ_run_and (run_main m ρ) (unchanged m ρ))
  exact ⟨((h.1 c).1 9).trans (arr_y m c),
    ((h.1 c).1 10).trans (arr_dx m c),
    ((h.1 c).1 11).trans (arr_dw m c),
    (rest r h.1 c main_v66 (Pipeline.mem_restRefs_of main_v66 (by decide) (by decide))).trans (end_hx m c),
    (rest r h.1 c main_v69 (Pipeline.mem_restRefs_of main_v69 (by decide) (by decide))).trans (end_hw m c),
    (rest r h.1 c main_v72 (Pipeline.mem_restRefs_of main_v72 (by decide) (by decide))).trans (end_hd m c),
    ((h.1 c).1 12).trans (arr_xq m c),
    (rest r h.1 c main_v17 (Pipeline.mem_restRefs_of main_v17 (by decide) (by decide))).trans (end_xs m c),
    ((h.1 c).1 13).trans (arr_wq m c),
    (rest r h.1 c main_v36 (Pipeline.mem_restRefs_of main_v36 (by decide) (by decide))).trans (end_ws m c),
    ((h.1 c).1 14).trans (arr_dq m c),
    (rest r h.1 c main_v55 (Pipeline.mem_restRefs_of main_v55 (by decide) (by decide))).trans (end_ds m c),
    h.2 c⟩

end Cert.ReferenceIdeal.Value

end
-- ==== Proof.lean ====
/-
  The claims: the kernel's program and its reading over the reals leave their arguments unchanged and end with every
  counter at zero, so does the reference, idealisation rewrote nothing, and over the extended reals the kernel's program
  and the reference end with equal results.
-/
module

public import proofs.«01_k».proof.Defs
public import proofs.«01_k».proof.Proof.Kernel.Whole
public import proofs.«01_k».proof.Proof.KernelIdeal.Whole
public import proofs.«01_k».proof.Proof.KernelIdeal.Value
public import proofs.«01_k».proof.Proof.ReferenceIdeal.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe Idealize.SL.Sem Cert.Kernel
open Cert.KernelIdeal.Value

/-- Equal results over the extended reals: both sides are the same functions of the arguments. -/
theorem algebraic : Cert.algebraic_KernelIdeal_ReferenceIdeal := by
  intro m g m' g' _ e
  exact ⟨_, _, _, _, _, _, _, _, _, _, _, _, results m g,
    Cert.ReferenceIdeal.Value.results m' g' (x m) (w m) (d m) (hx m) (hw m) (hd m)
      (fun c => Cert.KernelIdeal.Whole.W10 m c Cert.KernelIdeal.main_v98_5)
      (fun c => Cert.KernelIdeal.Whole.W10 m c Cert.KernelIdeal.main_v88_1)
      (fun c => Cert.KernelIdeal.Whole.W10 m c Cert.KernelIdeal.main_v98_6)
      (fun c => (e c).1) (fun c => (e c).2.1) (fun c => (e c).2.2.1) (fun c => (e c).2.2.2.1)
      (fun c => (e c).2.2.2.2.1) (fun c => (e c).2.2.2.2.2) (W10_ax m) (W10_aw m) (W10_ad m)⟩

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ,
  fun m ρ _ => Cert.ReferenceIdeal.Gen.frame m ρ, trivial, algebraic⟩

end Cert.Proof

end
